-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_label_not_a_later_tie [hPre_label_not_a_later_tie : Cert.Pre_label_not_a_later_tie.Facts] (m : (ℓ : Loc Cert.KernelIdeal.nD Cert.KernelIdeal.τ Cert.KernelIdeal.sig) → Buf (Elt Ideal) ℓ) : Prop :=
  ∀ c : Dev Cert.KernelIdeal.nD,
    (Cert.Pre_label_not_a_later_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_label_not_a_later_tie [hPre_label_not_a_later_tie : Cert.Pre_label_not_a_later_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_label_not_a_later_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_label_not_a_later_tie [hKernelIdeal : Cert.KernelIdeal.Facts] [hPre_label_not_a_later_tie : Cert.Pre_label_not_a_later_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_label_not_a_later_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_label_not_a_later_tie [hReferenceIdeal : Cert.ReferenceIdeal.Facts] [hPre_label_not_a_later_tie : Cert.Pre_label_not_a_later_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_label_not_a_later_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_label_not_a_later_tie [hKernelIdeal : Cert.KernelIdeal.Facts] [hReferenceIdeal : Cert.ReferenceIdeal.Facts] [hPre_label_not_a_later_tie : Cert.Pre_label_not_a_later_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_label_not_a_later_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_label_not_a_later_tie : Cert.Pre_label_not_a_later_tie.Facts),
    quiescent_Kernel (hKernel := hKernel)
    ∧ quiescent_KernelIdeal (hKernelIdeal := hKernelIdeal)
    ∧ quiescent_KernelIdeal_pre_label_not_a_later_tie (hKernelIdeal := hKernelIdeal) (hPre_label_not_a_later_tie := hPre_label_not_a_later_tie)
    ∧ quiescent_ReferenceIdeal (hReferenceIdeal := hReferenceIdeal)
    ∧ quiescent_ReferenceIdeal_pre_label_not_a_later_tie (hReferenceIdeal := hReferenceIdeal) (hPre_label_not_a_later_tie := hPre_label_not_a_later_tie)
    ∧ preserves_Kernel_KernelIdeal
    ∧ algebraic_KernelIdeal_ReferenceIdeal_pre_label_not_a_later_tie (hKernelIdeal := hKernelIdeal) (hReferenceIdeal := hReferenceIdeal) (hPre_label_not_a_later_tie := hPre_label_not_a_later_tie)
-- ==== Pre_label_not_a_later_tie.lean ====
abbrev S1000000x100 : Shape := ⟨2, ![1000000, 100]⟩
abbrev S1000000 : Shape := ⟨1, ![1000000]⟩
abbrev S_ : Shape := ⟨0, ![]⟩
abbrev S1000000x1 : Shape := ⟨2, ![1000000, 1]⟩

class Facts : Prop where
  reducesTo_S1000000x100_S1000000_d1 : S1000000x100.ReducesTo [1] S1000000
  h_S_ : 0 < S_.numel
  bcast_S1000000_S1000000x1_0 : S1000000.BroadcastsInDim S1000000x1 (![0] : Fin 1 → Fin S1000000x1.rank)
  bcast_S1000000x1_S1000000x100_0_1 : S1000000x1.BroadcastsInDim S1000000x100 (![0, 1] : Fin 2 → Fin S1000000x100.rank)
  reducesTo_S1000000x100_S_d0_1 : S1000000x100.ReducesTo [0, 1] S_

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S1000000x100 .f32) : IVec S1000000 32 :=
  let v0 : IVec S1000000x100 32 := iotaInDim S1000000x100 32 1
  let cst : FVec F S_ .f32 := constant S_ .f32 0xFF800000#32
  let c : IVec S_ 32 := constantI S_ 32 0#32
  let v1_0 : FVec F S1000000 .f32 := (fun x y u v j => (Host.argReduce reducer_argmax_f32_i32 x y u v reducesTo_S1000000x100_S1000000_d1 h_S_ j).1) arg0 v0 cst c
  let v1_1 : IVec S1000000 32 := (fun x y u v j => (Host.argReduce reducer_argmax_f32_i32 x y u v reducesTo_S1000000x100_S1000000_d1 h_S_ j).2) arg0 v0 cst c
  v1_1

def fn {F : FTy → Type} [FloatOps F] (main_arg0 : FVec F S1000000x100 .f32) (main_arg1 : IVec S1000000 32) : IVec S_ 1 :=
  let main_cst : FVec F S_ .f32 := constant S_ .f32 0xFF800000#32
  let main_v0 : FVec F S1000000 .f32 := (fun x v => Host.reduce FloatOps.maximumf x v reducesTo_S1000000x100_S1000000_d1 h_S_) main_arg0 main_cst
  let main_v1 : FVec F S1000000x1 .f32 := broadcastInDim S1000000x1 ![0] bcast_S1000000_S1000000x1_0 main_v0
  let main_v2 : IVec S1000000x100 32 := iotaInDim S1000000x100 32 1
  let main_v3 : IVec S1000000 32 := fn_argmax (F := F) main_arg0
  let main_v4 : FVec F S1000000x100 .f32 := broadcastInDim S1000000x100 ![0, 1] bcast_S1000000x1_S1000000x100_0_1 main_v1
  let main_v5 : IVec S1000000x100 1 := cmpf .oeq main_arg0 main_v4
  let main_v6 : IVec S1000000x1 32 := broadcastInDim S1000000x1 ![0] bcast_S1000000_S1000000x1_0 main_arg1
  let main_v7 : IVec S1000000x100 32 := broadcastInDim S1000000x100 ![0, 1] bcast_S1000000x1_S1000000x100_0_1 main_v6
  let main_v8 : IVec S1000000x100 1 := cmpi .eq main_v2 main_v7
  let main_v9 : IVec S1000000x100 1 := andi main_v5 main_v8
  let main_v10 : IVec S1000000x1 32 := broadcastInDim S1000000x1 ![0] bcast_S1000000_S1000000x1_0 main_v3
  let main_v11 : IVec S1000000x100 32 := broadcastInDim S1000000x100 ![0, 1] bcast_S1000000x1_S1000000x100_0_1 main_v10
  let main_v12 : IVec S1000000x100 1 := cmpi .ne main_v2 main_v11
  let main_v13 : IVec S1000000x100 1 := andi main_v9 main_v12
  let main_c : IVec S_ 1 := constantI S_ 1 0#1
  let main_v14 : IVec S_ 1 := (fun x v => Host.reduce IntOp.ori x v reducesTo_S1000000x100_S_d0_1 h_S_) main_v13 main_c
  let main_v15 : IVec S_ 1 := noti main_v14
  main_v15
-- ==== Kernel.lean ====
abbrev S1000000x100 : Shape := ⟨2, ![1000000, 100]⟩
abbrev S1000000 : Shape := ⟨1, ![1000000]⟩
abbrev S1000000x1 : Shape := ⟨2, ![1000000, 1]⟩
abbrev S1x1 : Shape := ⟨2, ![1, 1]⟩
abbrev S8000x100 : Shape := ⟨2, ![8000, 100]⟩
abbrev S8000x1 : Shape := ⟨2, ![8000, 1]⟩
abbrev S3x16 : Shape := ⟨2, ![3, 16]⟩
abbrev S8000 : Shape := ⟨1, ![8000]⟩
abbrev S1x16 : Shape := ⟨2, ![1, 16]⟩
abbrev S8000x16 : Shape := ⟨2, ![8000, 16]⟩
abbrev S16 : Shape := ⟨1, ![16]⟩
abbrev S1x15 : Shape := ⟨2, ![1, 15]⟩
abbrev S1x1x15 : Shape := ⟨3, ![1, 1, 15]⟩
abbrev S1 : Shape := ⟨1, ![1]⟩
abbrev S1x1x1 : Shape := ⟨3, ![1, 1, 1]⟩

abbrev nBuf : Space → Nat
  | .hbm => 4
  | .vmem => 6
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S1000000x1, .i32⟩
  | .hbm, ⟨3, _⟩ => ⟨S1x1, .f32⟩
  | .local _ .vmem, ⟨0, _⟩ => ⟨S8000x100, .f32⟩
  | .local _ .vmem, ⟨1, _⟩ => ⟨S8000x100, .f32⟩
  | .local _ .vmem, ⟨2, _⟩ => ⟨S8000x1, .i32⟩
  | .local _ .vmem, ⟨3, _⟩ => ⟨S8000x1, .i32⟩
  | .local _ .vmem, ⟨4, _⟩ => ⟨S1x1, .f32⟩
  | .local _ .vmem, ⟨5, _⟩ => ⟨S3x16, .f32⟩
  | _, _ => ⟨S1000000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v61 : BitVec 1 := Scalar.cmpi .eq arg0 c124_i32
  let v62 : BitVec 32 := Scalar.extui v61
  let c0_i32_22 : BitVec 32 := 0#32
  let v63 : BitVec 1 := Scalar.cmpi .ne v62 c0_i32_22
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1000000x100 : Shape := ⟨2, ![1000000, 100]⟩
abbrev S1000000 : Shape := ⟨1, ![1000000]⟩
abbrev S_ : Shape := ⟨0, ![]⟩
abbrev S1000000x1 : Shape := ⟨2, ![1000000, 1]⟩
abbrev S15 : Shape := ⟨1, ![15]⟩
abbrev S1 : Shape := ⟨1, ![1]⟩
abbrev S16 : Shape := ⟨1, ![16]⟩
abbrev S1x1000000 : Shape := ⟨2, ![1, 1000000]⟩
abbrev S15x1 : Shape := ⟨2, ![15, 1]⟩
abbrev S15x1000000 : Shape := ⟨2, ![15, 1000000]⟩
abbrev S1x1 : Shape := ⟨2, ![1, 1]⟩

abbrev nBuf : Space → Nat
  | .hbm => 97
  | .vmem => 0
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S_, .f32⟩
  | .hbm, ⟨3, _⟩ => ⟨S1000000, .f32⟩
  | .hbm, ⟨4, _⟩ => ⟨S_, .f32⟩
  | .hbm, ⟨5, _⟩ => ⟨S1000000, .f32⟩
  | .hbm, ⟨6, _⟩ => ⟨S1000000, .f32⟩
  | .hbm, ⟨7, _⟩ => ⟨S1000000x1, .f32⟩
  | .hbm, ⟨8, _⟩ => ⟨S1000000x100, .f32⟩
  | .hbm, ⟨9, _⟩ => ⟨S1000000x100, .f32⟩
  | .hbm, ⟨10, _⟩ => ⟨S1000000x100, .f32⟩
  | .hbm, ⟨11, _⟩ => ⟨S_, .f32⟩
  | .hbm, ⟨12, _⟩ => ⟨S1000000, .f32⟩
  | .hbm, ⟨13, _⟩ => ⟨S1000000x1, .f32⟩
  | .hbm, ⟨14, _⟩ => ⟨S1000000x100, .f32⟩
  | .hbm, ⟨15, _⟩ => ⟨S1000000x100, .f32⟩
  | .hbm, ⟨16, _⟩ => ⟨S_, .f32⟩
  | .hbm, ⟨17, _⟩ => ⟨S1000000, .f32⟩
  | .hbm, ⟨18, _⟩ => ⟨S1000000x100, .i32⟩
  | .hbm, ⟨19, _⟩ => ⟨S_, .f32⟩
  | .hbm, ⟨20, _⟩ => ⟨S_, .i32⟩
  | .hbm, ⟨21, _⟩ => ⟨S1000000, .f32⟩
  | .hbm, ⟨22, _⟩ => ⟨S1000000, .i32⟩
  | .hbm, ⟨23, _⟩ => ⟨S1000000, .i1⟩
  | .hbm, ⟨24, _⟩ => ⟨S1000000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S15, .f32⟩
  | .hbm, ⟨33, _⟩ => ⟨S_, .f32⟩
  | .hbm, ⟨34, _⟩ => ⟨S15, .f32⟩
  | .hbm, ⟨35, _⟩ => ⟨S15, .f32⟩
  | .hbm, ⟨36, _⟩ => ⟨S1, .f32⟩
  | .hbm, ⟨37, _⟩ => ⟨S_, .f32⟩
  | .hbm, ⟨38, _⟩ => ⟨S15, .f32⟩
  | .hbm, ⟨39, _⟩ => ⟨S15, .f32⟩
  | .hbm, ⟨40, _⟩ => ⟨S15, .f32⟩
  | .hbm, ⟨41, _⟩ => ⟨S15, .f32⟩
  | .hbm, ⟨42, _⟩ => ⟨S1, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S1, .f32⟩
  | .hbm, ⟨47, _⟩ => ⟨S16, .f32⟩
  | .hbm, ⟨48, _⟩ => ⟨S15, .f32⟩
  | .hbm, ⟨49, _⟩ => ⟨S15, .f32⟩
  | .hbm, ⟨50, _⟩ => ⟨S1x1000000, .f32⟩
  | .hbm, ⟨51, _⟩ => ⟨S15x1, .f32⟩
  | .hbm, ⟨52, _⟩ => ⟨S15x1000000, .f32⟩
  | .hbm, ⟨53, _⟩ => ⟨S15x1000000, .f32⟩
  | .hbm, ⟨54, _⟩ => ⟨S15x1000000, .i1⟩
  | .hbm, ⟨55, _⟩ => ⟨S1x1000000, .f32⟩
  | .hbm, ⟨56, _⟩ => ⟨S15x1, .f32⟩
  | .hbm, ⟨57, _⟩ => ⟨S15x1000000, .f32⟩
  | .hbm, ⟨58, _⟩ => ⟨S15x1000000, .f32⟩
  | .hbm, ⟨59, _⟩ => ⟨S15x1000000, .i1⟩
  | .hbm, ⟨60, _⟩ => ⟨S15x1000000, .i1⟩
  | .hbm, ⟨61, _⟩ => ⟨S15x1000000, .f32⟩
  | .hbm, ⟨62, _⟩ => ⟨S_, .f32⟩
  | .hbm, ⟨63, _⟩ => ⟨S15, .f32⟩
  | .hbm, ⟨64, _⟩ => ⟨S_, .f32⟩
  | .hbm, ⟨65, _⟩ => ⟨S15, .f32⟩
  | .hbm, ⟨66, _⟩ => ⟨S15, .f32⟩
  | .hbm, ⟨67, _⟩ => ⟨S_, .f32⟩
  | .hbm, ⟨68, _⟩ => ⟨S15, .f32⟩
  | .hbm, ⟨69, _⟩ => ⟨S_, .f32⟩
  | .hbm, ⟨70, _⟩ => ⟨S15, .f32⟩
  | .hbm, ⟨71, _⟩ => ⟨S15, .f32⟩
  | .hbm, ⟨72, _⟩ => ⟨S1x1000000, .f32⟩
  | .hbm, ⟨73, _⟩ => ⟨S15x1000000, .f32⟩
  | .hbm, ⟨74, _⟩ => ⟨S15x1000000, .f32⟩
  | .hbm, ⟨75, _⟩ => ⟨S_, .f32⟩
  | .hbm, ⟨76, _⟩ => ⟨S15, .f32⟩
  | .hbm, ⟨77, _⟩ => ⟨S15, .f32⟩
  | .hbm, ⟨78, _⟩ => ⟨S1x1000000, .f32⟩
  | .hbm, ⟨79, _⟩ => ⟨S15x1000000, .f32⟩
  | .hbm, ⟨80, _⟩ => ⟨S15x1000000, .f32⟩
  | .hbm, ⟨81, _⟩ => ⟨S_, .f32⟩
  | .hbm, ⟨82, _⟩ => ⟨S15, .f32⟩
  | .hbm, ⟨83, _⟩ => ⟨S15, .f32⟩
  | .hbm, ⟨84, _⟩ => ⟨S15, .f32⟩
  | .hbm, ⟨85, _⟩ => ⟨S15, .f32⟩
  | .hbm, ⟨86, _⟩ => ⟨S15, .f32⟩
  | .hbm, ⟨87, _⟩ => ⟨S_, .f32⟩
  | .hbm, ⟨88, _⟩ => ⟨S15, .f32⟩
  | .hbm, ⟨89, _⟩ => ⟨S15, .i1⟩
  | .hbm, ⟨90, _⟩ => ⟨S_, .f32⟩
  | .hbm, ⟨91, _⟩ => ⟨S_, .f32⟩
  | .hbm, ⟨92, _⟩ => ⟨S15, .f32⟩
  | .hbm, ⟨93, _⟩ => ⟨S15, .f32⟩
  | .hbm, ⟨94, _⟩ => ⟨S_, .f32⟩
  | .hbm, ⟨95, _⟩ => ⟨S_, .f32⟩
  | .hbm, ⟨96, _⟩ => ⟨S1x1, .f32⟩
  | _, _ => ⟨S1000000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_cst : Ref sig .tc := ⟨.hbm, 30, rfl⟩
abbrev main_call1_v3 : Ref sig .tc := ⟨.hbm, 31, rfl⟩
abbrev main_call1_v4 : Ref sig .tc := ⟨.hbm, 32, rfl⟩
abbrev main_call1_cst_0 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_cst_1 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_v15 : Ref sig .tc := ⟨.hbm, 45, rfl⟩
abbrev main_call1_v16 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_cst_7 : Ref sig .tc := ⟨.hbm, 67, rfl⟩
abbrev main_v33 : Ref sig .tc := ⟨.hbm, 68, rfl⟩
abbrev main_cst_8 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_9 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_10 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v51 : Ref sig .tc := ⟨.hbm, 93, rfl⟩
abbrev main_cst_13 : Ref sig .tc := ⟨.hbm, 94, rfl⟩
abbrev main_v52 : Ref sig .tc := ⟨.hbm, 95, rfl⟩
abbrev main_v53 : Ref sig .tc := ⟨.hbm, 96, rfl⟩

abbrev nD : Nat := 1
abbrev τ : Topo := Topo.v7x

variable {F : FTy → Type} [FloatOps F]
-- ==== Proof.Block.lean ====
/-
  What one grid point does.

  The kernel carries an array of three rows of sixteen numbers from point to point: how many rows so far
  have a confidence above each threshold, the sum of their confidences, and how many of them are predicted
  right. A point adds its own block of rows to the three; the first point starts them at zero; the last
  one makes the error out of them.
-/
module

public import proofs.«01_k».proof.Proof.Gen.KernelIdeal.Value
public import Idealize.ShloMosaic.Lib.Pointwise
public import Idealize.ShloMosaic.Lib.Pipeline.FrameBody
public import Idealize.ShloMosaic.Lib.Pipeline.Value

@[expose] public section

set_option maxRecDepth 16384

noncomputable section

namespace Cert.KernelIdeal.Ece

open Cert.KernelIdeal Cert.KernelIdeal.Gen Idealize.ShloMosaic Idealize.ShloMosaic.TcCoe Idealize.SL.Sem

variable {F : FTy → Type} [FloatOps F]

/-! ## The three rows -/

/-- Row `k` of the carried array. -/
def row (s : Vec F S3x16 .f32) (k : Fin 3) : Vec F S1x16 .f32 := fun j => s (ix2 k (j 1 : Fin 16))

/-- The carried array with the given rows. -/
def threeRows (a b e : Vec F S1x16 .f32) : Vec F S3x16 .f32 := fun y =>
  (![a, b, e] : Fin 3 → Vec F S1x16 .f32) (y 0 : Fin 3) (ix2 (0 : Fin 1) (y 1 : Fin 16))

theorem row_threeRows (a b e : Vec F S1x16 .f32) (k : Fin 3) :
    row (threeRows a b e) k = (![a, b, e] : Fin 3 → Vec F S1x16 .f32) k := by
  funext j
  have hj : j = ix2 (0 : Fin 1) (j 1 : Fin 16) := by
    rw [eq_ix2 j]; congr 1; exact Subsingleton.elim (α := Fin 1) _ _
  conv_rhs => rw [hj]
  rfl

/-- Where a row's rectangle puts its elements. -/
theorem emb_row (k : Fin 3) {off : Fin 2 → ℕ} (h0 : off 0 = k.val) (h1 : off 1 = 0)
    (inb : ∀ a, off a + (![1, 16] : Fin 2 → ℕ) a ≤ S3x16.size a) (j : S1x16.Idx) :
    (Rect.unit (s := S3x16) off ![1, 16] inb).emb j = ix2 k (j 1 : Fin 16) := by
  have hj : (j 0).val < 1 := (j 0).isLt
  funext a
  apply Fin.ext
  match a with
  | ⟨0, _⟩ => show off 0 + 1 * (j 0).val = k.val; omega
  | ⟨1, _⟩ => show off 1 + 1 * (j 1).val = (j 1).val; omega

/-- A row's rectangle holds no element of another row. -/
theorem not_mem_row (k r : Fin 3) (hr : r ≠ k) {off : Fin 2 → ℕ} (h0 : off 0 = k.val)
    (inb : ∀ a, off a + (![1, 16] : Fin 2 → ℕ) a ≤ S3x16.size a) (j : Fin 16) :
    (ix2 r j : S3x16.Idx) ∉ (Rect.unit (s := S3x16) off ![1, 16] inb).set := by
  rw [Rect.mem_set_unit]
  intro h
  have h := h 0
  have e0 : off 0 ≤ r.val ∧ r.val < off 0 + 1 := h
  exact hr (Fin.ext (by omega))

/-- The row stored last reads as what was stored. -/
theorem canon_row_same (k : Fin 3) {off : Fin 2 → ℕ} (h0 : off 0 = k.val) (h1 : off 1 = 0)
    (inb : ∀ a, off a + (![1, 16] : Fin 2 → ℕ) a ≤ S3x16.size a) (w : Vec F S1x16 .f32)
    (L : List (View.Piece (Elt F) S3x16 .f32)) (j : Fin 16) :
    View.canon (⟨Rect.unit (s := S3x16) off ![1, 16] inb, w⟩ :: L) (ix2 k j) = w (ix2 (0 : Fin 1) j) := by
  have e := View.canon_cons_emb (Val := Elt F) (Rect.unit (s := S3x16) off ![1, 16] inb) w L (ix2 (0 : Fin 1) j : S1x16.Idx)
  rw [emb_row k h0 h1 inb] at e
  exact e

/-- Every other row reads as it was before. -/
theorem canon_row_ne (k r : Fin 3) (hr : r ≠ k) {off : Fin 2 → ℕ} (h0 : off 0 = k.val)
    (inb : ∀ a, off a + (![1, 16] : Fin 2 → ℕ) a ≤ S3x16.size a) (w : Vec F S1x16 .f32)
    (L : List (View.Piece (Elt F) S3x16 .f32)) (j : Fin 16) :
    View.canon (⟨Rect.unit (s := S3x16) off ![1, 16] inb, w⟩ :: L) (ix2 r j) = View.canon L (ix2 r j) :=
  View.canon_cons_of_not_mem _ L (not_mem_row k r hr h0 inb j)

/-- What a load of a row reads of stored pieces. -/
theorem readCov_row (k : Fin 3) {off : Fin 2 → ℕ} (h0 : off 0 = k.val) (h1 : off 1 = 0)
    (inb : ∀ a, off a + (![1, 16] : Fin 2 → ℕ) a ≤ S3x16.size a) {κ : Kind} {sp : Space} (v : View sig κ sp S3x16 .f32)
    (L : List (View.Piece (Elt F) S3x16 .f32)) :
    v.readCov L (Rect.unit (s := S3x16) off ![1, 16] inb).toLoadRect = row (View.canon L) k := by
  rw [View.readCov_eq_canon']
  exact funext fun j => congrArg (View.canon L) (emb_row k h0 h1 inb j)

/-- What a load of a row reads of the whole array. -/
theorem ld_row (k : Fin 3) {off : Fin 2 → ℕ} (h0 : off 0 = k.val) (h1 : off 1 = 0)
    (inb : ∀ a, off a + (![1, 16] : Fin 2 → ℕ) a ≤ S3x16.size a) (s : Vec F S3x16 .f32) :
    View.ld s (Rect.unit (s := S3x16) off ![1, 16] inb) = row s k :=
  funext fun j => congrArg s (emb_row k h0 h1 inb j)

/-- Three rows stored one after another are the whole array, whatever was stored before. -/
theorem canon_threeRows {o0 o1 o2 : Fin 2 → ℕ} (h0 : o0 = ![0, 0]) (h1 : o1 = ![1, 0]) (h2 : o2 = ![2, 0])
    (i0 : ∀ a, o0 a + (![1, 16] : Fin 2 → ℕ) a ≤ S3x16.size a) (i1 : ∀ a, o1 a + (![1, 16] : Fin 2 → ℕ) a ≤ S3x16.size a)
    (i2 : ∀ a, o2 a + (![1, 16] : Fin 2 → ℕ) a ≤ S3x16.size a) (a b e : Vec F S1x16 .f32)
    (L : List (View.Piece (Elt F) S3x16 .f32)) :
    View.canon (⟨Rect.unit (s := S3x16) o2 ![1, 16] i2, e⟩ :: ⟨Rect.unit (s := S3x16) o1 ![1, 16] i1, b⟩
      :: ⟨Rect.unit (s := S3x16) o0 ![1, 16] i0, a⟩ :: L) = threeRows a b e := by
  subst h0 h1 h2
  funext y
  obtain ⟨r, j, rfl⟩ : ∃ (r : Fin 3) (j : Fin 16), y = ix2 r j := ⟨y 0, y 1, eq_ix2 y⟩
  match r with
  | ⟨2, _⟩ => exact canon_row_same 2 rfl rfl i2 e _ j
  | ⟨1, _⟩ =>
    refine (canon_row_ne 2 1 (by decide) rfl i2 e _ j).trans ?_
    exact canon_row_same 1 rfl rfl i1 b _ j
  | ⟨0, _⟩ =>
    refine (canon_row_ne 2 0 (by decide) rfl i2 e _ j).trans ?_
    refine (canon_row_ne 1 0 (by decide) rfl i1 b _ j).trans ?_
    exact canon_row_same 0 rfl rfl i0 a _ j

/-- A row that the last store leaves alone reads as before it. -/
theorem row_canon_ne (k r : Fin 3) (hr : r ≠ k) {off : Fin 2 → ℕ} (h0 : off 0 = k.val)
    (inb : ∀ a, off a + (![1, 16] : Fin 2 → ℕ) a ≤ S3x16.size a) (w : Vec F S1x16 .f32)
    (L : List (View.Piece (Elt F) S3x16 .f32)) :
    row (View.canon (⟨Rect.unit (s := S3x16) off ![1, 16] inb, w⟩ :: L)) r = row (View.canon L) r :=
  funext fun j => canon_row_ne k r hr h0 inb w L (j 1)

/-! ## A point's effect -/

/-- The three rows after a point, from its block of logits, its block of labels, and the rows before. -/
def step (x : Vec F S8000x100 .f32) (l : Vec F S8000x1 .i32) (s : Vec F S3x16 .f32) : Vec F S3x16 .f32 :=
  threeRows (k0_pay1 (k0_pay11 x (row s 0))) (k0_pay2 (k0_pay9 x) (k0_pay10 x) (row s 1))
    (k0_pay3 (k0_pay8 x l) (k0_pay10 x) (row s 2))

/-- The error the last point makes of the three rows. -/
def finish (s : Vec F S3x16 .f32) : Vec F S1x1 .f32 := k0_pay4 (row s 0) (row s 1) (row s 2)

theorem hz : (![0, 0] : Fin 2 → Nat) = fun _ => 0 := funext fun a => by fin_cases a <;> rfl

section
variable (c : Dev nD) (i : grid0.Coords) (a1 : Memref sig .tc .vmem S8000x100 .f32) (h1 : a1.IsWhole)
    (a2 : Memref sig .tc .vmem S8000x1 .i32) (h2 : a2.IsWhole) (a3 : Memref sig .tc .vmem S1x1 .f32) (h3 : a3.IsWhole)
    (a4 : Memref sig .tc .vmem S3x16 .f32) (h4 : a4.IsWhole)
    (x : Vec F S8000x100 .f32) (l : Vec F S8000x1 .i32) (s : Vec F S3x16 .f32)

/-- The first point: the rows start at zero. -/
theorem sout_A (hc0 : cond0_0 i) (hc1 : ¬cond0_1 i) :
    sout0_A_0 c i a1 h1 a2 h2 a3 h3 a4 h4 hc0 hc1 x l = step x l k0_pay5 := by
  unfold sout0_A_0
  rw [View.read_writes_eq_canon _ _ _ (scover0_A_0 c i a1 h1 a2 h2 a3 h3 a4 h4 hc0 hc1 x l)]
  unfold kernelRun0_A
  dsimp only
  sl_unfold_words
  rw [canon_threeRows rfl rfl rfl, readCov_row 0 rfl rfl, readCov_row 1 rfl rfl, readCov_row 2 rfl rfl,
    row_canon_ne 1 2 (by decide) rfl, row_canon_ne 0 2 (by decide) rfl, row_canon_ne 0 1 (by decide) rfl,
    View.canon_unit_zero (S := S3x16) hz]
  simp only [View.readAt_eq_ld, h1.read_unread, h2.read_unread, View.ld_unit_zero (S := S8000x100) hz,
    View.ld_unit_zero (S := S8000x1) hz]
  rfl

/-- A middle point. -/
theorem sout_B (hc0 : ¬cond0_0 i) (hc1 : ¬cond0_1 i) :
    sout0_B_0 c i a1 h1 a2 h2 a3 h3 a4 h4 hc0 hc1 x l s = step x l s := by
  unfold sout0_B_0
  rw [View.read_writes_eq_canon _ _ _ (scover0_B_0 c i a1 h1 a2 h2 a3 h3 a4 h4 hc0 hc1 x l s)]
  unfold kernelRun0_B
  dsimp only
  sl_unfold_words
  rw [canon_threeRows rfl rfl rfl]
  simp only [View.readAt_eq_ld, h1.read_unread, h2.read_unread, h4.read_unread, View.ld_unit_zero (S := S8000x100) hz,
    View.ld_unit_zero (S := S8000x1) hz]
  rw [ld_row 0 rfl rfl, ld_row 1 rfl rfl, ld_row 2 rfl rfl]
  rfl

/-- What the last point stores as the result. -/
theorem out_C (hc0 : ¬cond0_0 i) (hc1 : cond0_1 i) :
    out0_C_2 c i a1 h1 a2 h2 a3 h3 a4 h4 hc0 hc1 x l s = finish (step x l s) := by
  unfold out0_C_2
  rw [View.read_writes_eq_canon _ _ _ (cover0_C_2 c i a1 h1 a2 h2 a3 h3 a4 h4 hc0 hc1 x l s)]
  unfold kernelRun0_C
  dsimp only
  sl_unfold_words
  rw [View.canon_unit_zero (S := S1x1) hz, readCov_row 0 rfl rfl, readCov_row 1 rfl rfl, readCov_row 2 rfl rfl,
    canon_threeRows rfl rfl rfl]
  simp only [View.readAt_eq_ld, h1.read_unread, h2.read_unread, h4.read_unread, View.ld_unit_zero (S := S8000x100) hz,
    View.ld_unit_zero (S := S8000x1) hz]
  rw [ld_row 0 rfl rfl, ld_row 1 rfl rfl, ld_row 2 rfl rfl]
  rfl

end

end Cert.KernelIdeal.Ece

end
-- ==== Proof.Carried.lean ====
/-
  What the carried array holds after each grid point, and where each point's blocks lie in the arguments.
-/
module

public import proofs.«01_k».proof.Proof.Block
public import Idealize.ShloMosaic.Lib.Claim
public import Idealize.ShloMosaic.Lib.StableHlo.RunRead

@[expose] public section

set_option maxRecDepth 16384

noncomputable section

namespace Cert.KernelIdeal.Ece

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The logits, as launched. -/
def logits (c : Dev nD) : Vec F S1000000x100 .f32 := m ((c.tc : Thread nD τ).loc main_arg0)

/-- The labels, as launched. -/
def labels (c : Dev nD) : Vec F S1000000 .i32 := m ((c.tc : Thread nD τ).loc main_arg1)

/-- Row `i` of block `n`, as a row of the whole. -/
def rowOf (n : ℕ) (hn : n < 125) (i : Fin 8000) : Fin 1000000 := ⟨8000 * n + i.val, by omega⟩

/-- The logits of block `n`: rows `8000 n` to `8000 n + 7999`. -/
def logitsBlock (c : Dev nD) (n : ℕ) (hn : n < 125) : Vec F S8000x100 .f32 := fun j =>
  logits m c (ix2 (rowOf n hn (j 0 : Fin 8000)) (j 1 : Fin 100))

/-- The labels of the same rows, as a column. -/
def labelsBlock (c : Dev nD) (n : ℕ) (hn : n < 125) : Vec F S8000x1 .i32 := fun j =>
  labels m c (ix1 (rowOf n hn (j 0 : Fin 8000)))

/-- The first block index of the two input windows is the point. -/
theorem index_in : ∀ t : Fin grid0.N, win0_0.index t (0 : Fin 2) = t.val ∧ win0_0.index t (1 : Fin 2) = 0
    ∧ win0_1.index t (0 : Fin 2) = t.val ∧ win0_1.index t (1 : Fin 2) = 0 := by decide +kernel

/-- What a point finds in its first window. -/
theorem iblk_logits (c : Dev nD) (t : Fin cfg0.N) (hn : t.val < 125) :
    (iblk m c 0 t : Vec F S8000x100 .f32) = logitsBlock m c t.val hn := by
  obtain ⟨e0, e1, -, -⟩ := index_in t
  funext j
  unfold iblk
  rw [View.read_apply]
  show V m c main_arg0 _ = m ((c.tc : Thread nD τ).loc main_arg0) _
  rw [V_main_arg0]
  congr 1
  funext a
  apply Fin.ext
  match a with
  | ⟨0, _⟩ => show win0_0.index t (0 : Fin 2) * 8000 + 1 * (j 0).val = 8000 * t.val + (j 0).val; rw [e0]; omega
  | ⟨1, _⟩ => show win0_0.index t (1 : Fin 2) * 100 + 1 * (j 1).val = (j 1).val; rw [e1]; omega

/-- The labels as the column the second window reads. -/
theorem V_labels (c : Dev nD) : V m c main_v0 = shapeCast S1000000x1 (labels m c) shapeCasts_S1000000_S1000000x1 := by
  entry_read
  rfl

/-- What a point finds in its second window. -/
theorem iblk_labels (c : Dev nD) (t : Fin cfg0.N) (hn : t.val < 125) :
    (iblk m c 1 t : Vec F S8000x1 .i32) = labelsBlock m c t.val hn := by
  obtain ⟨-, -, e0, e1⟩ := index_in t
  funext j
  have hj : (j 1).val < 1 := (j 1).isLt
  unfold iblk
  rw [View.read_apply]
  show V m c main_v0 _ = labels m c _
  rw [V_labels]
  have e : ((cfg0.win 1).blk t).view.emb j = ix2 (rowOf t.val hn (j 0 : Fin 8000)) (0 : Fin 1) := by
    funext a
    apply Fin.ext
    match a with
    | ⟨0, _⟩ => show win0_1.index t (0 : Fin 2) * 8000 + 1 * (j 0).val = 8000 * t.val + (j 0).val; rw [e0]; omega
    | ⟨1, _⟩ => show win0_1.index t (1 : Fin 2) * 1 + 1 * (j 1).val = 0; rw [e1]; omega
  show shapeCast S1000000x1 (labels m c) shapeCasts_S1000000_S1000000x1 (((cfg0.win 1).blk t).view.emb j) = _
  rw [e]
  pointwise

/-- The three rows after block `n`. -/
def rowsAfter (c : Dev nD) : (n : ℕ) → n < 125 → Vec F S3x16 .f32
  | 0, h => step (logitsBlock m c 0 h) (labelsBlock m c 0 h) k0_pay5
  | n + 1, h => step (logitsBlock m c (n + 1) h) (labelsBlock m c (n + 1) h) (rowsAfter c n (Nat.lt_of_succ_lt h))

/-- Before the last point, the carried array is the three rows. -/
theorem carried_eq (c : Dev nD) : ∀ (n : ℕ) (h : n < cfg0.N) (h' : n < 124),
    (outsAt0 m c n h).2 = rowsAfter m c n (Nat.lt_succ_of_lt h')
  | 0, h, h' => by
    have e := outsAt0_A m c ⟨0, h⟩ (Nat.zero_mod _) (by dsimp only; decide)
    refine (congrArg Prod.snd e).trans ?_
    dsimp only
    rw [sout_A, iblk_logits m c ⟨0, h⟩ (by dsimp only; decide), iblk_labels m c ⟨0, h⟩ (by dsimp only; decide)]
    rfl
  | n + 1, h, h' => by
    have e := outsAt0_B m c ⟨n + 1, h⟩ (by dsimp only; omega) (by dsimp only; omega)
    refine (congrArg Prod.snd e).trans ?_
    dsimp only
    rw [sout_B, iblk_logits m c ⟨n + 1, h⟩ (Nat.lt_succ_of_lt h'), iblk_labels m c ⟨n + 1, h⟩ (Nat.lt_succ_of_lt h')]
    show step _ _ (outsAt0 m c n _).2 = _
    rw [carried_eq c n _ (Nat.lt_of_succ_lt h')]
    rfl

/-- The result array ends holding the error made of the three rows after the last block. -/
theorem result_eq (c : Dev nD) : Value.G2 m c = finish (rowsAfter m c 124 (by decide)) := by
  have h : 124 < cfg0.N := lt_of_lt_of_eq (by decide) N_0.symm
  rw [Value.G2_last, ← Value.outsAt0_sweep m c 124 h]
  have e := outsAt0_C m c ⟨124, h⟩ (by dsimp only; decide) rfl
  refine (congrArg Prod.fst e).trans ?_
  dsimp only
  rw [out_C, iblk_logits m c ⟨124, h⟩ (by dsimp only; decide), iblk_labels m c ⟨124, h⟩ (by dsimp only; decide)]
  show finish (step _ _ (outsAt0 m c 123 _).2) = _
  rw [carried_eq m c 123 _ (by decide)]
  rfl

end Cert.KernelIdeal.Ece

end
-- ==== Proof.Spread.lean ====
/-
  A vector repeated along a further axis, read at an index: the repetition forgets the further coordinate.
-/
module

public import Idealize.ShloMosaic.Lib.Pipeline.Value
public import Idealize.ShloMosaic.Lib.Pointwise

@[expose] public section

namespace Cert.Ece

open Idealize.ShloMosaic

variable {α : Type}

/-- A vector over the rows as a column, repeated along a second axis: the value of the row. -/
theorem column_apply (n k : ℕ) (hn : n ≠ 1) (v : (⟨1, ![n]⟩ : Shape).Idx → α)
    (h : (⟨1, ![n]⟩ : Shape).BroadcastsInDim ⟨2, ![n, 1]⟩ ![0])
    (h' : (⟨2, ![n, 1]⟩ : Shape).BroadcastsInDim ⟨2, ![n, k]⟩ ![0, 1]) (i : Fin n) (j : Fin k) :
    broadcastInDim ⟨2, ![n, k]⟩ ![0, 1] h' (broadcastInDim ⟨2, ![n, 1]⟩ ![0] h v) (ix2 i j) = v (ix1 i) := by
  rw [broadcastInDim_apply (k := ix2 i 0) (hk := fun a => ?_)]
  · refine broadcastInDim_apply _ _ _ _ _ fun a => ?_
    match a with
    | ⟨0, _⟩ => exact (if_neg hn).symm
  · match a with
    | ⟨0, _⟩ => exact (if_neg hn).symm
    | ⟨1, _⟩ => exact (if_pos rfl).symm

/-- A vector as a row, repeated along a first axis: the value of the column. -/
theorem line_apply (n k : ℕ) (hn : n ≠ 1) (v : (⟨1, ![n]⟩ : Shape).Idx → α)
    (h : (⟨1, ![n]⟩ : Shape).BroadcastsInDim ⟨2, ![1, n]⟩ ![1])
    (h' : (⟨2, ![1, n]⟩ : Shape).BroadcastsInDim ⟨2, ![k, n]⟩ ![0, 1]) (j : Fin k) (i : Fin n) :
    broadcastInDim ⟨2, ![k, n]⟩ ![0, 1] h' (broadcastInDim ⟨2, ![1, n]⟩ ![1] h v) (ix2 j i) = v (ix1 i) := by
  rw [broadcastInDim_apply (k := ix2 0 i) (hk := fun a => ?_)]
  · refine broadcastInDim_apply _ _ _ _ _ fun a => ?_
    match a with
    | ⟨0, _⟩ => exact (if_neg hn).symm
  · match a with
    | ⟨0, _⟩ => exact (if_pos rfl).symm
    | ⟨1, _⟩ => exact (if_neg hn).symm

/-- A column repeated along its second axis: the value of the row. -/
theorem broadcast_column_apply (n k : ℕ) (hn : n ≠ 1) (v : (⟨2, ![n, 1]⟩ : Shape).Idx → α)
    (h : (⟨2, ![n, 1]⟩ : Shape).Broadcasts ⟨2, ![n, k]⟩) (i : Fin n) (j : Fin k) :
    broadcastTo ⟨2, ![n, k]⟩ v h (ix2 i j) = v (ix2 i 0) := by
  refine broadcastTo_apply _ _ _ _ fun a => ?_
  match a with
  | ⟨0, _⟩ => exact (if_neg hn).symm
  | ⟨1, _⟩ => exact (if_pos rfl).symm

/-- A row repeated along its first axis: the value of the column. -/
theorem broadcast_line_apply (n k : ℕ) (hn : n ≠ 1) (v : (⟨2, ![1, n]⟩ : Shape).Idx → α)
    (h : (⟨2, ![1, n]⟩ : Shape).Broadcasts ⟨2, ![k, n]⟩) (j : Fin k) (i : Fin n) :
    broadcastTo ⟨2, ![k, n]⟩ v h (ix2 j i) = v (ix2 0 i) := by
  refine broadcastTo_apply _ _ _ _ fun a => ?_
  match a with
  | ⟨0, _⟩ => exact (if_pos rfl).symm
  | ⟨1, _⟩ => exact (if_neg hn).symm

/-- A vector written as a column. -/
theorem cast_column_apply (n : ℕ) (v : (⟨1, ![n]⟩ : Shape).Idx → α)
    (h : (⟨1, ![n]⟩ : Shape).ShapeCasts ⟨2, ![n, 1]⟩) (i : Fin n) :
    shapeCast ⟨2, ![n, 1]⟩ v h (ix2 i 0) = v (ix1 i) := by
  refine shapeCast_apply _ _ _ _ ?_
  rw [Shape.rowMajor_val_one, Shape.rowMajor_val_two]
  show i.val = i.val * 1 + 0
  omega

end Cert.Ece
-- ==== Proof.BlockRead.lean ====
/-
  What one grid point computes, read at an index, over the extended reals.
-/
module

public import proofs.«01_k».proof.Proof.Carried
public import proofs.«01_k».proof.Proof.Spread

@[expose] public section

set_option maxRecDepth 16384

noncomputable section

namespace Cert.KernelIdeal.Ece

open Cert.KernelIdeal Cert.KernelIdeal.Gen Idealize.ShloMosaic Idealize.ShloMosaic.TcCoe Idealize.SL.Sem
open Finset Cert.Ece

variable (x : Vec Ideal S8000x100 .f32) (l : Vec Ideal S8000x1 .i32)

/-- The greatest exponential of a row. -/
theorem greatest_apply (i : Fin 8000) : k0_pay7 x (ix2 i 0)
    = univ.fold max (Ideal.ofBits .f32 0xFF800000#32) (fun j => Ideal.exp (x (ix2 i j))) := by
  pointwise [k0_pay7, k0_pay6]

/-- The greatest, over a row, of the exponential at the label and zero elsewhere. -/
theorem atLabel_apply (i : Fin 8000) :
    shapeCast S8000x1 (multiReduction .maximumf [1] S8000
      (select (cmpi .eq (iota .tc S8000x100 32 [1] iota_S8000x100_d1_w32)
          (broadcastTo S8000x100 (shapeCast S8000x1 l shapeCasts_S8000x1_S8000x1) broadcasts_S8000x1_S8000x100))
        (k0_pay6 x) (broadcast S8000x100 (Scalar.ofBits (F := Ideal) .f32 0x00000000#32)))
      0xFF800000#32 reduces_S8000x100_S8000 (.inl rfl) rfl) shapeCasts_S8000_S8000x1 (ix2 i 0)
    = univ.fold max (Ideal.ofBits .f32 0xFF800000#32)
        (fun j => Scalar.select (IntOp.cmpi .eq (BitVec.ofNat 32 j.val) (l (ix2 i 0))) (Ideal.exp (x (ix2 i j))) 0) := by
  have h : ∀ w : IVec S8000x100 32, (∀ j, w (ix2 i j) = l (ix2 i 0)) →
      shapeCast S8000x1 (multiReduction .maximumf [1] S8000
        (select (cmpi .eq (iota .tc S8000x100 32 [1] iota_S8000x100_d1_w32) w)
          (k0_pay6 x) (broadcast S8000x100 (Scalar.ofBits (F := Ideal) .f32 0x00000000#32)))
        0xFF800000#32 reduces_S8000x100_S8000 (.inl rfl) rfl) shapeCasts_S8000_S8000x1 (ix2 i 0)
      = univ.fold max (Ideal.ofBits .f32 0xFF800000#32)
          (fun j => Scalar.select (IntOp.cmpi .eq (BitVec.ofNat 32 j.val) (l (ix2 i 0))) (Ideal.exp (x (ix2 i j))) 0) :=
    fun w hw => by
      pointwise [k0_pay6]
      simp only [hw]
  exact h _ fun j => (broadcast_column_apply 8000 100 (by norm_num) _ _ i j).trans (by rw [shapeCast_self])

/-- Whether the exponential at the label is the greatest of the row. -/
theorem right_apply (i : Fin 8000) : k0_pay8 x l (ix2 i 0)
    = FloatOps.sitofp .f32 (BitVec.setWidth 32 (BitVec.ofBool (decide (
        univ.fold max (Ideal.ofBits .f32 0xFF800000#32)
          (fun j => Scalar.select (IntOp.cmpi .eq (BitVec.ofNat 32 j.val) (l (ix2 i 0))) (Ideal.exp (x (ix2 i j))) 0)
        = k0_pay7 x (ix2 i 0))))) := by
  have h : ∀ (g v : FVec Ideal S8000x1 .f32) (r : EReal), v (ix2 i 0) = r →
      sitofp (F := Ideal) .f32 (extui 32 (cmpf .oeq v g) natLt_1_32) (ix2 i 0)
        = FloatOps.sitofp .f32 (BitVec.setWidth 32 (BitVec.ofBool (decide (r = g (ix2 i 0))))) := fun g v r hr => by
    pointwise
    rw [hr]
  exact h (k0_pay7 x) _ _ (atLabel_apply x l i)

/-- The greatest exponential of a row over their sum. -/
theorem conf_apply (i : Fin 8000) : k0_pay9 x (ix2 i 0)
    = k0_pay7 x (ix2 i 0) * Ideal.div 1 (∑ j, Ideal.exp (x (ix2 i j))) := by
  have h : ∀ g : FVec Ideal S8000x1 .f32, mulf g (reciprocal true (shapeCast S8000x1 (multiReduction .add [1] S8000
        (k0_pay6 x) 0x00000000#32 reduces_S8000x100_S8000 (.inl rfl) rfl) shapeCasts_S8000_S8000x1)) (ix2 i 0)
      = g (ix2 i 0) * Ideal.div 1 (∑ j, Ideal.exp (x (ix2 i j))) := fun g => by
    pointwise [k0_pay6]
  exact h (k0_pay7 x)

/-- Whether a row's confidence is above a threshold. -/
theorem above_apply (i : Fin 8000) (k : Fin 16) : k0_pay10 x (ix2 i k)
    = FloatOps.sitofp .f32 (BitVec.setWidth 32 (BitVec.ofBool (decide (
        Scalar.select (IntOp.cmpi .eq (BitVec.ofNat 32 k.val) 15#32) (Ideal.ofBits .f32 0x40000000#32)
          (Ideal.div (FloatOps.sitofp (F := Ideal) .f32 (BitVec.ofNat 32 k.val)) (Ideal.ofBits .f32 0x41700000#32))
        < k0_pay9 x (ix2 i 0))))) := by
  have h : ∀ (g : FVec Ideal S8000x1 .f32) (w : FVec Ideal S8000x16 .f32), w (ix2 i k) = g (ix2 i 0) →
      sitofp (F := Ideal) .f32 (extui 32 (cmpf .ogt w (broadcastTo S8000x16
        (select (cmpi .eq (iota .tc S1x16 32 [1] iota_S1x16_d1_w32) (broadcast S1x16 15#32))
          (broadcast S1x16 (Scalar.ofBits (F := Ideal) .f32 0x40000000#32))
          (divf (sitofp .f32 (iota .tc S1x16 32 [1] iota_S1x16_d1_w32))
            (broadcast S1x16 (Scalar.ofBits (F := Ideal) .f32 0x41700000#32))))
        broadcasts_S1x16_S8000x16)) natLt_1_32) (ix2 i k)
      = FloatOps.sitofp .f32 (BitVec.setWidth 32 (BitVec.ofBool (decide (
        Scalar.select (IntOp.cmpi .eq (BitVec.ofNat 32 k.val) 15#32) (Ideal.ofBits .f32 0x40000000#32)
          (Ideal.div (FloatOps.sitofp (F := Ideal) .f32 (BitVec.ofNat 32 k.val)) (Ideal.ofBits .f32 0x41700000#32))
        < g (ix2 i 0))))) := fun g w hw => by
    pointwise
    rw [hw]
  exact h (k0_pay9 x) (broadcastTo S8000x16 (k0_pay9 x) broadcasts_S8000x1_S8000x16)
    (broadcast_column_apply 8000 16 (by norm_num) _ _ i k)

/-- The first row of the carried array gains the counts. -/
theorem addCounts_apply (s : Vec Ideal S1x16 .f32) (k : Fin 16) :
    k0_pay1 (k0_pay11 x s) (ix2 0 k) = s (ix2 0 k) + ∑ i, k0_pay10 x (ix2 i k) := by
  unfold k0_pay11
  generalize k0_pay10 x = g
  pointwise [k0_pay1]

/-- The second gains the sums of a column over the rows above each threshold. -/
theorem addSums_apply (v : Vec Ideal S8000x1 .f32) (w : Vec Ideal S8000x16 .f32) (s : Vec Ideal S1x16 .f32)
    (k : Fin 16) : k0_pay2 v w s (ix2 0 k) = s (ix2 0 k) + ∑ i, v (ix2 i 0) * w (ix2 i k) := by
  unfold k0_pay2
  have h := fun i => broadcast_column_apply 8000 16 (by norm_num) v broadcasts_S8000x1_S8000x16 i k
  generalize broadcastTo S8000x16 v broadcasts_S8000x1_S8000x16 = G at h ⊢
  pointwise
  simp only [h]

/-- So does the third. -/
theorem addRights_apply (v : Vec Ideal S8000x1 .f32) (w : Vec Ideal S8000x16 .f32) (s : Vec Ideal S1x16 .f32)
    (k : Fin 16) : k0_pay3 v w s (ix2 0 k) = s (ix2 0 k) + ∑ i, v (ix2 i 0) * w (ix2 i k) :=
  addSums_apply v w s k

/-- What a bin adds to the error, out of the three rows. -/
def binOf (a b e : Vec Ideal S1x16 .f32) (k : Fin 15) : EReal :=
  if 0 < (a (ix2 0 ⟨k.val, by omega⟩) : EReal) - a (ix2 0 ⟨1 + k.val, by omega⟩) then
    FloatOps.absf (F := Ideal) (φ := .f32)
      (Ideal.div ((b (ix2 0 ⟨k.val, by omega⟩) : EReal) - b (ix2 0 ⟨1 + k.val, by omega⟩))
          (max ((a (ix2 0 ⟨k.val, by omega⟩) : EReal) - a (ix2 0 ⟨1 + k.val, by omega⟩)) 1)
        - Ideal.div ((e (ix2 0 ⟨k.val, by omega⟩) : EReal) - e (ix2 0 ⟨1 + k.val, by omega⟩))
          (max ((a (ix2 0 ⟨k.val, by omega⟩) : EReal) - a (ix2 0 ⟨1 + k.val, by omega⟩)) 1))
    * Ideal.div ((a (ix2 0 ⟨k.val, by omega⟩) : EReal) - a (ix2 0 ⟨1 + k.val, by omega⟩))
        (Ideal.ofBits .f32 0x49742400#32)
  else 0

/-- The error is the sum over the bins. -/
theorem finish_apply (a b e : Vec Ideal S1x16 .f32) : k0_pay4 a b e (ix2 0 0) = ∑ k, binOf a b e k := by
  unfold binOf
  pointwise [k0_pay4]
  simp

end Cert.KernelIdeal.Ece

end
-- ==== Proof.Spec.lean ====
module

public import Idealize.ShloMosaic.PureOps.Ideal

/-! The expected calibration error, in the real numbers: what one row of logits and its label say, and how the rows
    are put together. Both programs are shown to compute `ece` of the rows' `weights`. -/

@[expose] public section

namespace Cert.Ece

open Finset Idealize.ShloMosaic

/-- A row of logits that has a softmax: no logit is `+∞`, and some logit is not `−∞`. -/
def Proper (x : Fin 100 → EReal) : Prop := (∀ j, x j ≠ ⊤) ∧ ∃ j, x j ≠ ⊥

open Classical in
/-- The exponentials of a row of logits, as real numbers; all zero for a row that has no softmax. -/
noncomputable def weights (x : Fin 100 → EReal) (j : Fin 100) : ℝ := if Proper x then (Ideal.exp (x j)).toReal else 0

/-- The greatest element of a row. -/
noncomputable def top (w : Fin 100 → ℝ) : ℝ := univ.sup' ⟨0, mem_univ 0⟩ w

/-- The sum of a row. -/
noncomputable def mass (w : Fin 100 → ℝ) : ℝ := ∑ j, w j

/-- The confidence of a row of weights: the greatest part that a class has in their sum, and 0 where the sum is 0. -/
noncomputable def conf (w : Fin 100 → ℝ) : ℝ := top w / mass w

open Classical in
/-- 1 if the label names a class whose weight is the greatest of the row, else 0. -/
noncomputable def right (w : Fin 100 → ℝ) (l : BitVec 32) : ℝ :=
  if ∃ j : Fin 100, BitVec.ofNat 32 j = l ∧ w j = top w then 1 else 0

/-- 1 if the confidence is above the `k`-th of the boundaries `0, 1/15, …, 1`, else 0. -/
noncomputable def above (w : Fin 100 → ℝ) (k : ℕ) : ℝ := if (k : ℝ) / 15 < conf w then 1 else 0

/-- 1 if the confidence lies in the `k`-th bin, open below and closed above, else 0. -/
noncomputable def within (w : Fin 100 → ℝ) (k : ℕ) : ℝ :=
  if (k : ℝ) / 15 < conf w ∧ conf w ≤ ((k + 1 : ℕ) : ℝ) / 15 then 1 else 0

/-- What a bin adds to the error: `cnt` rows whose confidences sum to `s` and of which `a` are right. -/
noncomputable def binError (cnt s a : ℝ) : ℝ :=
  if 0 < cnt then |s / max cnt 1 - a / max cnt 1| * (cnt / 1000000) else 0

/-- The expected calibration error of a million rows of weights and their labels. -/
noncomputable def ece (W : Fin 1000000 → Fin 100 → ℝ) (L : Fin 1000000 → BitVec 32) : ℝ :=
  ∑ k : Fin 15, binError (∑ r, within (W r) k) (∑ r, conf (W r) * within (W r) k)
    (∑ r, right (W r) (L r) * within (W r) k)

/-! ### The greatest element -/

theorem le_top (w : Fin 100 → ℝ) (j : Fin 100) : w j ≤ top w := le_sup' w (mem_univ j)

theorem exists_top (w : Fin 100 → ℝ) : ∃ j, w j = top w := by
  obtain ⟨j, -, h⟩ := exists_mem_eq_sup' ⟨(0 : Fin 100), mem_univ 0⟩ w
  exact ⟨j, h.symm⟩

theorem top_eq (w : Fin 100 → ℝ) (t : ℝ) (j : Fin 100) (hj : w j = t) (h : ∀ i, w i ≤ t) : top w = t :=
  le_antisymm (sup'_le _ _ fun i _ => h i) (hj ▸ le_top w j)

/-- A row over a positive number has its greatest value over it. -/
theorem top_div (w : Fin 100 → ℝ) (t : ℝ) (ht : 0 < t) : top (fun j => w j / t) = top w / t := by
  obtain ⟨j, hj⟩ := exists_top w
  exact top_eq _ _ j (by rw [hj]) fun i => div_le_div_of_nonneg_right (le_top w i) ht.le

/-- The running maximum of a row from the least element is an element that none exceeds. -/
theorem fold_max_eq (x : Fin 100 → EReal) (j : Fin 100) (h : ∀ i, x i ≤ x j) : univ.fold max (⊥ : EReal) x = x j :=
  le_antisymm ((fold_max_le _).2 ⟨bot_le, fun i _ => h i⟩) ((le_fold_max _).2 (Or.inr ⟨j, mem_univ j, le_rfl⟩))

/-- The running maximum of a row of real numbers from the least element is the greatest value of the row. -/
theorem fold_max_coe (w : Fin 100 → ℝ) :
    univ.fold max (⊥ : EReal) (fun j => ((w j : ℝ) : EReal)) = ((top w : ℝ) : EReal) := by
  obtain ⟨j, hj⟩ := exists_top w
  rw [← hj]
  exact fold_max_eq (fun j => ((w j : ℝ) : EReal)) j fun i => EReal.coe_le_coe_iff.2 (hj ▸ le_top w i)

/-! ### The weights of a row of logits -/

theorem exp_nonneg (e : EReal) : 0 ≤ Ideal.exp e := by
  induction e using EReal.rec with
  | bot => exact le_rfl
  | top => exact _root_.le_top
  | coe r => exact EReal.coe_nonneg.2 (Real.exp_pos r).le

/-- The exponentials of a row that has a softmax are its weights. -/
theorem exp_weights (x : Fin 100 → EReal) (h : Proper x) (j : Fin 100) :
    Ideal.exp (x j) = ((weights x j : ℝ) : EReal) := by
  have hj := h.1 j
  unfold weights
  rw [if_pos h]
  generalize x j = e at hj ⊢
  induction e using EReal.rec with
  | bot => rfl
  | top => exact absurd rfl hj
  | coe r => rfl

/-- So they are when a number is first taken off the row, up to that number's exponential. -/
theorem exp_sub_weights (x : Fin 100 → EReal) (h : Proper x) (t : ℝ) (j : Fin 100) :
    Ideal.exp (x j - (t : EReal)) = ((weights x j / Real.exp t : ℝ) : EReal) := by
  have hj := h.1 j
  unfold weights
  rw [if_pos h]
  generalize x j = e at hj ⊢
  induction e using EReal.rec with
  | bot =>
    rw [EReal.bot_sub]
    show (0 : EReal) = (((0 : EReal).toReal / Real.exp t : ℝ) : EReal)
    rw [EReal.toReal_zero, zero_div]
    rfl
  | top => exact absurd rfl hj
  | coe r =>
    rw [← EReal.coe_sub]
    show ((Real.exp (r - t) : ℝ) : EReal) = ((Real.exp r / Real.exp t : ℝ) : EReal)
    rw [Real.exp_sub]

theorem weights_nonneg (x : Fin 100 → EReal) (j : Fin 100) : 0 ≤ weights x j := by
  by_cases h : Proper x
  · exact EReal.coe_nonneg.1 (exp_weights x h j ▸ exp_nonneg (x j))
  · unfold weights
    rw [if_neg h]

/-- The weights are in the order of the logits. -/
theorem weights_le_iff (x : Fin 100 → EReal) (h : Proper x) (i j : Fin 100) : weights x i ≤ weights x j ↔ x i ≤ x j := by
  have hi := h.1 i
  have hj := h.1 j
  rw [← EReal.coe_le_coe_iff, ← exp_weights x h, ← exp_weights x h]
  generalize x i = a at hi ⊢
  generalize x j = b at hj ⊢
  induction a using EReal.rec with
  | bot => exact iff_of_true (exp_nonneg b) bot_le
  | top => exact absurd rfl hi
  | coe r =>
    induction b using EReal.rec with
    | bot =>
      refine iff_of_false (fun hr => ?_) fun hr => EReal.coe_ne_bot r (le_bot_iff.1 hr)
      exact (Real.exp_pos r).not_ge (EReal.coe_le_coe_iff.1 hr)
    | top => exact absurd rfl hj
    | coe s => exact (EReal.coe_le_coe_iff.trans Real.exp_le_exp).trans EReal.coe_le_coe_iff.symm

/-- A row that has a softmax has a positive greatest weight. -/
theorem top_pos (x : Fin 100 → EReal) (h : Proper x) : 0 < top (weights x) := by
  obtain ⟨j, hj⟩ := h.2
  refine lt_of_lt_of_le ?_ (le_top (weights x) j)
  have hj' := h.1 j
  rw [← EReal.coe_pos, ← exp_weights x h]
  generalize x j = e at hj hj' ⊢
  induction e using EReal.rec with
  | bot => exact absurd rfl hj
  | top => exact absurd rfl hj'
  | coe r => exact EReal.coe_pos.2 (Real.exp_pos r)

theorem top_le_mass (x : Fin 100 → EReal) : top (weights x) ≤ mass (weights x) := by
  obtain ⟨j, hj⟩ := exists_top (weights x)
  rw [← hj]
  exact single_le_sum (fun i _ => weights_nonneg x i) (mem_univ j)

/-- A row that has a softmax has a positive sum of weights. -/
theorem mass_pos (x : Fin 100 → EReal) (h : Proper x) : 0 < mass (weights x) := (top_pos x h).trans_le (top_le_mass x)

theorem conf_le_one (x : Fin 100 → EReal) : conf (weights x) ≤ 1 :=
  div_le_one_of_le₀ (top_le_mass x) (sum_nonneg fun i _ => weights_nonneg x i)

/-- A row that has a softmax has a greatest logit, a real number. -/
theorem exists_greatest (x : Fin 100 → EReal) (h : Proper x) : ∃ (j : Fin 100) (t : ℝ), x j = (t : EReal) ∧ ∀ i, x i ≤ x j := by
  obtain ⟨j, -, hj⟩ := exists_max_image univ x ⟨0, mem_univ 0⟩
  obtain ⟨i, hi⟩ := h.2
  have hb : x j ≠ ⊥ := fun e => hi (le_bot_iff.1 (e ▸ hj i (mem_univ i)))
  exact ⟨j, (x j).toReal, (EReal.coe_toReal (h.1 j) hb).symm, fun i => hj i (mem_univ i)⟩

/-! ### A row that has no softmax -/

/-- Such a row holds `+∞`, or nothing but `−∞`. -/
theorem improper_cases (x : Fin 100 → EReal) (h : ¬ Proper x) : (∃ j, x j = ⊤) ∨ ∀ j, x j = ⊥ := by
  by_contra hn
  rw [not_or, not_exists, not_forall] at hn
  exact h hn

theorem conf_improper (x : Fin 100 → EReal) (h : ¬ Proper x) : conf (weights x) = 0 := by
  unfold conf mass weights
  simp only [if_neg h, sum_const_zero, div_zero]

theorem above_improper (x : Fin 100 → EReal) (h : ¬ Proper x) (k : ℕ) : above (weights x) k = 0 := by
  unfold above
  rw [conf_improper x h]
  exact if_neg (not_lt.2 (by positivity))

theorem within_improper (x : Fin 100 → EReal) (h : ¬ Proper x) (k : ℕ) : within (weights x) k = 0 := by
  unfold within
  rw [conf_improper x h]
  exact if_neg fun hk => hk.1.not_ge (by positivity)

/-- Its greatest exponential times the reciprocal of their sum is zero. -/
theorem greatest_mul_improper (x : Fin 100 → EReal) (h : ¬ Proper x) :
    univ.fold max (⊥ : EReal) (fun j => Ideal.exp (x j)) * Ideal.div 1 (∑ j, Ideal.exp (x j)) = 0 := by
  rcases improper_cases x h with ⟨j, hj⟩ | hb
  · have hs : ∑ j, Ideal.exp (x j) = ⊤ := by
      refine top_le_iff.1 (le_trans ?_ (single_le_sum (f := fun j => Ideal.exp (x j)) (fun i _ => exp_nonneg (x i)) (mem_univ j)))
      show ⊤ ≤ Ideal.exp (x j)
      rw [hj]
      rfl
    rw [hs, Ideal.div, if_neg EReal.top_ne_zero, EReal.inv_top, mul_zero, mul_zero]
  · have h0 : ∀ j, Ideal.exp (x j) = 0 := fun j => by rw [hb j]; rfl
    rw [fold_max_eq (fun j => Ideal.exp (x j)) 0 fun i => by simp only [h0]; exact le_rfl, h0, zero_mul]

/-- Each of its logits, less the greatest, is `−∞`. -/
theorem sub_greatest_improper (x : Fin 100 → EReal) (h : ¬ Proper x) (i : Fin 100) :
    x i - univ.fold max (⊥ : EReal) x = ⊥ := by
  rcases improper_cases x h with ⟨j, hj⟩ | hb
  · rw [fold_max_eq x j fun k => by rw [hj]; exact _root_.le_top, hj, sub_eq_add_neg, EReal.neg_top, EReal.add_bot]
  · rw [hb i, EReal.bot_sub]

/-! ### The bins and the label -/

/-- No confidence is above the last boundary, 1. -/
theorem above_last (x : Fin 100 → EReal) : above (weights x) 15 = 0 :=
  if_neg (by rw [show ((15 : ℕ) : ℝ) / 15 = 1 by norm_num]; exact (conf_le_one x).not_gt)

/-- The difference of two neighbouring thresholds is a bin. -/
theorem above_sub (w : Fin 100 → ℝ) (k : ℕ) : above w k - above w (k + 1) = within w k := by
  have hlt : (k : ℝ) / 15 < ((k + 1 : ℕ) : ℝ) / 15 := by
    rw [div_lt_div_iff_of_pos_right (by norm_num)]; exact_mod_cast Nat.lt_succ_self k
  unfold above within
  by_cases h1 : (k : ℝ) / 15 < conf w
  · by_cases h2 : ((k + 1 : ℕ) : ℝ) / 15 < conf w
    · rw [if_pos h1, if_pos h2, if_neg fun h => h.2.not_gt h2, sub_self]
    · rw [if_pos h1, if_neg h2, if_pos ⟨h1, not_lt.1 h2⟩, sub_zero]
  · rw [if_neg h1, if_neg fun h => h1 (hlt.trans h), if_neg fun h => h1 h.1, sub_self]

/-- The weight at the label, 0 at the other classes. -/
noncomputable def atLabel (w : Fin 100 → ℝ) (l : BitVec 32) (j : Fin 100) : ℝ := if BitVec.ofNat 32 j = l then w j else 0

/-- The label is right when the weight at the label is the greatest of the row. -/
theorem right_eq (x : Fin 100 → EReal) (h : Proper x) (l : BitVec 32) :
    right (weights x) l = if top (atLabel (weights x) l) = top (weights x) then 1 else 0 := by
  have hle : ∀ j, atLabel (weights x) l j ≤ top (weights x) := fun j => by
    unfold atLabel; split
    · exact le_top _ j
    · exact (top_pos x h).le
  refine if_congr ⟨?_, ?_⟩ rfl rfl
  · rintro ⟨j, hj, hx⟩
    exact top_eq _ _ j (by rw [atLabel, if_pos hj, hx]) hle
  · intro ht
    obtain ⟨j, hj⟩ := exists_top (atLabel (weights x) l)
    rw [ht, atLabel] at hj
    split at hj
    · next hl => exact ⟨j, hl, hj⟩
    · exact absurd hj (top_pos x h).ne

/-! ### Real numbers among the extended ones -/

/-- A sum of real numbers is a real number. -/
theorem sum_coe {ι : Type} (s : Finset ι) (f : ι → ℝ) :
    ∑ i ∈ s, ((f i : ℝ) : EReal) = ((∑ i ∈ s, f i : ℝ) : EReal) := by
  classical
  induction s using Finset.induction_on with
  | empty => rfl
  | insert a s ha ih => rw [sum_insert ha, sum_insert ha, ih, EReal.coe_add]

/-- A quotient of real numbers is a real number unless the divisor is zero. -/
theorem div_coe (a b : ℝ) (hb : b ≠ 0) :
    Ideal.div (a : EReal) (b : EReal) = ((a / b : ℝ) : EReal) := by
  rw [Ideal.div_coe hb, ← EReal.coe_mul, mul_one_div]

/-! ### The constants of the two programs -/

theorem lit_bot : Ideal.ofBits .f32 0xFF800000#32 = (⊥ : EReal) := by
  simp [Ideal.ofBits, Ideal.ieee]

theorem lit_two : Ideal.ofBits .f32 0x40000000#32 = ((2 : ℝ) : EReal) := by
  simp [Ideal.ofBits, Ideal.ieee, ← EReal.coe_mul]; norm_num

theorem lit_fifteen : Ideal.ofBits .f32 0x41700000#32 = ((15 : ℝ) : EReal) := by
  simp [Ideal.ofBits, Ideal.ieee, ← EReal.coe_mul]; norm_num

theorem lit_million : Ideal.ofBits .f32 0x49742400#32 = ((1000000 : ℝ) : EReal) := by
  simp [Ideal.ofBits, Ideal.ieee, ← EReal.coe_mul]; norm_num

/-- What a bin adds, computed among the extended reals, is what it adds. -/
theorem binError_coe (n s a : ℝ) :
    (if (0 : EReal) < (n : EReal) then
        FloatOps.absf (F := Ideal) (φ := .f32)
          (Ideal.div (s : EReal) (max (n : EReal) 1)
            - Ideal.div (a : EReal) (max (n : EReal) 1))
        * Ideal.div (n : EReal) (Ideal.ofBits .f32 0x49742400#32)
      else (0 : EReal))
      = ((binError n s a : ℝ) : EReal) := by
  have hm : max (n : EReal) 1 = ((max n 1 : ℝ) : EReal) := by
    rw [EReal.coe_strictMono.monotone.map_max]; rfl
  have h0 : max n 1 ≠ 0 := (lt_of_lt_of_le one_pos (le_max_right n 1)).ne'
  unfold binError
  by_cases hn : 0 < n
  · rw [if_pos hn, if_pos (EReal.coe_pos.2 hn), hm, lit_million, div_coe _ _ h0, div_coe _ _ h0,
      div_coe _ _ (by norm_num), ← EReal.coe_sub, EReal.coe_mul]
    refine congrArg (· * _) ?_
    show max _ (-_) = _
    rw [← EReal.coe_neg, ← EReal.coe_strictMono.monotone.map_max]
    rfl
  · rw [if_neg hn, if_neg fun h => hn (EReal.coe_pos.1 h)]
    rfl

end Cert.Ece
-- ==== Proof.BlockSum.lean ====
/-
  What one grid point adds to the three carried rows, row by row of its block.
-/
module

public import proofs.«01_k».proof.Proof.BlockRead
public import proofs.«01_k».proof.Proof.Spec
public import Idealize.ShloMosaic.Lib.Affine

@[expose] public section

set_option maxRecDepth 16384

noncomputable section

namespace Cert.KernelIdeal.Ece

open Cert.KernelIdeal Cert.KernelIdeal.Gen Idealize.ShloMosaic Idealize.ShloMosaic.TcCoe Idealize.SL.Sem
open Finset Cert.Ece

/-- A comparison's outcome, widened and read as a number: one if it holds, else zero. -/
theorem flag_eq (p : Prop) [Decidable p] :
    (FloatOps.sitofp (F := Ideal) .f32 (BitVec.setWidth 32 (BitVec.ofBool (decide p))) : EReal)
      = ((if p then 1 else 0 : ℝ) : EReal) := by
  show (((BitVec.setWidth 32 (BitVec.ofBool (decide p))).toInt : ℝ) : EReal) = _
  by_cases hp : p
  · rw [if_pos hp, decide_eq_true hp, show (BitVec.setWidth 32 (BitVec.ofBool true)).toInt = 1 by decide, Int.cast_one]
  · rw [if_neg hp, decide_eq_false hp, show (BitVec.setWidth 32 (BitVec.ofBool false)).toInt = 0 by decide,
      Int.cast_zero]

/-- The threshold of a column: `k / 15`, and 2 in the last column. -/
theorem threshold_eq (k : Fin 16) :
    (Scalar.select (IntOp.cmpi .eq (BitVec.ofNat 32 k.val) 15#32) (Ideal.ofBits .f32 0x40000000#32 : EReal)
      (Ideal.div (FloatOps.sitofp (F := Ideal) .f32 (BitVec.ofNat 32 k.val)) (Ideal.ofBits .f32 0x41700000#32)))
      = ((if k = 15 then 2 else (k.val : ℝ) / 15 : ℝ) : EReal) := by
  have h : (FloatOps.sitofp (F := Ideal) .f32 (BitVec.ofNat 32 k.val) : EReal) = ((k.val : ℝ) : EReal) := by
    show (((BitVec.ofNat 32 k.val).toInt : ℝ) : EReal) = _
    rw [show (BitVec.ofNat 32 k.val).toInt = (k.val : ℤ) by revert k; decide, Int.cast_natCast]
  by_cases hk : k = 15
  · subst hk
    rw [if_pos rfl, lit_two]; rfl
  · rw [if_neg hk, h, lit_fifteen, div_coe _ _ (by norm_num)]
    have : IntOp.cmpi .eq (BitVec.ofNat 32 k.val) 15#32 = 0#1 := by clear h; revert k; decide
    rw [this]; rfl

variable (x : Vec Ideal S8000x100 .f32) (l : Vec Ideal S8000x1 .i32) (i : Fin 8000) (y : Fin 100 → EReal)
  (hx : ∀ j, x (ix2 i j) = y j)

include hx

theorem greatest_real (hy : Proper y) : k0_pay7 x (ix2 i 0) = ((top (weights y) : ℝ) : EReal) := by
  rw [greatest_apply]
  simp only [hx, exp_weights y hy]
  rw [lit_bot, fold_max_coe]

/-- The block's confidences are the rows' confidences. -/
theorem conf_real : k0_pay9 x (ix2 i 0) = ((conf (weights y) : ℝ) : EReal) := by
  rw [conf_apply]
  by_cases hy : Proper y
  · rw [greatest_real x i y hx hy]
    simp only [hx, exp_weights y hy]
    rw [sum_coe, ← EReal.coe_one]
    change _ * Ideal.div ((1 : ℝ) : EReal) ((mass (weights y) : ℝ) : EReal) = _
    rw [div_coe _ _ (mass_pos y hy).ne', ← EReal.coe_mul, mul_one_div]
    rfl
  · rw [greatest_apply, lit_bot, conf_improper y hy]
    simp only [hx]
    exact greatest_mul_improper y hy

/-- The block's marks of rightness are the rows', where a row has a softmax. -/
theorem right_real (hy : Proper y) : k0_pay8 x l (ix2 i 0) = ((right (weights y) (l (ix2 i 0)) : ℝ) : EReal) := by
  have h : ∀ j : Fin 100,
      (Scalar.select (IntOp.cmpi .eq (BitVec.ofNat 32 j.val) (l (ix2 i 0))) (Ideal.exp (x (ix2 i j))) 0 : EReal)
        = ((atLabel (weights y) (l (ix2 i 0)) j : ℝ) : EReal) := fun j => by
    rw [hx, exp_weights y hy]
    unfold atLabel
    by_cases hj : BitVec.ofNat 32 j.val = l (ix2 i 0)
    · rw [if_pos hj, IntOp.cmpi_eq.2 hj]; rfl
    · rw [if_neg hj, show IntOp.cmpi .eq (BitVec.ofNat 32 j.val) (l (ix2 i 0)) = 0#1 from
        congrArg BitVec.ofBool (beq_eq_false_iff_ne.2 hj)]; rfl
  rw [right_apply, greatest_real x i y hx hy]
  simp only [h]
  rw [lit_bot, fold_max_coe, flag_eq, right_eq y hy]
  exact congrArg _ (if_congr EReal.coe_eq_coe_iff rfl rfl)

/-- The block's marks of being above a threshold are the rows', the last column's included: no confidence is above 1. -/
theorem above_real (k : Fin 16) : k0_pay10 x (ix2 i k) = ((above (weights y) k : ℝ) : EReal) := by
  rw [above_apply, conf_real x i y hx, threshold_eq, flag_eq]
  refine congrArg _ ?_
  by_cases hk : k = 15
  · subst hk
    rw [if_pos rfl, if_neg fun h => ?_]
    · exact (above_last y).symm
    · have := EReal.coe_lt_coe_iff.1 h
      linarith [conf_le_one y]
  · rw [if_neg hk]
    exact if_congr EReal.coe_lt_coe_iff rfl rfl

/-- The marks of rightness of the rows above a threshold are the rows'. -/
theorem right_above_real (k : Fin 16) : k0_pay8 x l (ix2 i 0) * k0_pay10 x (ix2 i k)
    = ((right (weights y) (l (ix2 i 0)) * above (weights y) k : ℝ) : EReal) := by
  rw [above_real x i y hx k]
  by_cases hy : Proper y
  · rw [right_real x l i y hx hy, EReal.coe_mul]
  · rw [above_improper y hy, mul_zero, EReal.coe_zero]
    exact mul_zero _

end Cert.KernelIdeal.Ece

end
-- ==== Proof.KernelSum.lean ====
/-
  What the three carried rows hold after each block, and the kernel's result.
-/
module

public import proofs.«01_k».proof.Proof.BlockSum

@[expose] public section

set_option maxRecDepth 16384

noncomputable section

namespace Cert.KernelIdeal.Ece

open Cert.KernelIdeal Cert.KernelIdeal.Gen Idealize.ShloMosaic Idealize.ShloMosaic.TcCoe Idealize.SL.Sem
open Finset Cert.Ece

/-! ### Sums over the first rows -/

/-- The sum of a function over the first `n` rows. -/
def upTo (f : Fin 1000000 → ℝ) (n : ℕ) : ℝ := ∑ i ∈ range n, if h : i < 1000000 then f ⟨i, h⟩ else 0

/-- A block more. -/
theorem upTo_block (f : Fin 1000000 → ℝ) (n : ℕ) (hn : n < 125) :
    upTo f (8000 * n) + ∑ i, f (rowOf n hn i) = upTo f (8000 * (n + 1)) := by
  unfold upTo
  rw [Nat.mul_succ, sum_range_add]
  refine congrArg _ ?_
  rw [sum_range]
  refine sum_congr rfl fun i _ => ?_
  rw [dif_pos (show 8000 * n + i.val < 1000000 from (rowOf n hn i).isLt)]
  rfl

/-- All rows. -/
theorem upTo_all (f : Fin 1000000 → ℝ) : upTo f (8000 * (124 + 1)) = ∑ r, f r := by
  unfold upTo
  rw [show 8000 * (124 + 1) = 1000000 by norm_num, sum_range]
  exact sum_congr rfl fun r _ => dif_pos r.isLt

/-! ### The carried rows -/

variable (m : (ℓ : Loc nD τ sig) → Buf (Elt Ideal) ℓ) (c : Dev nD)

/-- The weights of a row's logits. -/
def weightsOf (r : Fin 1000000) : Fin 100 → ℝ := weights fun j => logits m c (ix2 r j)

/-- The label of a row. -/
def label (r : Fin 1000000) : BitVec 32 := labels m c (ix1 r)

/-- What a carried row sums: the rows above a threshold, their confidences, how many of them are right. -/
def summand (q : Fin 3) (k : Fin 16) (r : Fin 1000000) : ℝ :=
  (![1, conf (weightsOf m c r), right (weightsOf m c r) (label m c r)] : Fin 3 → ℝ) q * above (weightsOf m c r) k

/-- A point adds its block's sums to the three rows. -/
theorem step_real (n : ℕ) (hn : n < 125) (s : Vec Ideal S3x16 .f32) (q : Fin 3) (k : Fin 16) (a : ℝ)
    (hs : row s q (ix2 0 k) = ((a : ℝ) : EReal)) :
    row (step (logitsBlock m c n hn) (labelsBlock m c n hn) s) q (ix2 0 k)
      = ((a + ∑ i, summand m c q k (rowOf n hn i) : ℝ) : EReal) := by
  have hab : ∀ i, k0_pay10 (logitsBlock m c n hn) (ix2 i k) = ((above (weightsOf m c (rowOf n hn i)) k : ℝ) : EReal) :=
    fun i => above_real _ i _ (fun _ => rfl) k
  have hcf : ∀ i, k0_pay9 (logitsBlock m c n hn) (ix2 i 0) = ((conf (weightsOf m c (rowOf n hn i)) : ℝ) : EReal) :=
    fun i => conf_real _ i _ fun _ => rfl
  have hrt : ∀ i, k0_pay8 (logitsBlock m c n hn) (labelsBlock m c n hn) (ix2 i 0)
        * k0_pay10 (logitsBlock m c n hn) (ix2 i k)
      = ((right (weightsOf m c (rowOf n hn i)) (label m c (rowOf n hn i)) * above (weightsOf m c (rowOf n hn i)) k : ℝ) : EReal) :=
    fun i => right_above_real _ _ i _ (fun _ => rfl) k
  unfold step
  rw [row_threeRows, EReal.coe_add, ← hs, ← sum_coe]
  match q with
  | 0 =>
    show k0_pay1 (k0_pay11 _ _) (ix2 0 k) = _
    rw [addCounts_apply]
    refine congrArg _ (sum_congr rfl fun i _ => ?_)
    rw [hab]
    exact congrArg _ (one_mul _).symm
  | 1 =>
    show k0_pay2 _ _ _ (ix2 0 k) = _
    rw [addSums_apply]
    refine congrArg _ (sum_congr rfl fun i _ => ?_)
    rw [hab, hcf, ← EReal.coe_mul]
    rfl
  | 2 =>
    show k0_pay3 _ _ _ (ix2 0 k) = _
    rw [addRights_apply]
    refine congrArg _ (sum_congr rfl fun i _ => ?_)
    rw [hrt]
    rfl

/-- The first point starts the three rows at zero. -/
theorem start_apply (q : Fin 3) (k : Fin 16) : row (F := Ideal) (k0_pay5 (F := Ideal)) q (ix2 0 k) = ((0 : ℝ) : EReal) := by
  unfold row
  pointwise [k0_pay5]
  rfl

/-- After block `n`, the three rows hold the sums over the rows of the blocks so far. -/
theorem rowsAfter_apply (q : Fin 3) (k : Fin 16) : ∀ (n : ℕ) (hn : n < 125),
    row (rowsAfter m c n hn) q (ix2 0 k) = ((upTo (summand m c q k) (8000 * (n + 1)) : ℝ) : EReal)
  | 0, hn => by
    rw [rowsAfter, step_real m c 0 hn _ q k 0 (start_apply q k), ← upTo_block _ 0 hn]
    rfl
  | n + 1, hn => by
    rw [rowsAfter, step_real m c (n + 1) hn _ q k _ (rowsAfter_apply q k n _), upTo_block _ (n + 1) hn]

/-! ### The result -/

/-- The difference of two neighbouring columns is the sum over a bin. -/
theorem column_sub (q : Fin 3) (k : Fin 15) :
    ((∑ r, summand m c q ⟨k.val, by omega⟩ r : ℝ) : EReal) - ((∑ r, summand m c q ⟨1 + k.val, by omega⟩ r : ℝ) : EReal)
      = ((∑ r, (![1, conf (weightsOf m c r), right (weightsOf m c r) (label m c r)] : Fin 3 → ℝ) q * within (weightsOf m c r) k : ℝ) : EReal) := by
  rw [← EReal.coe_sub, ← sum_sub_distrib]
  refine congrArg _ (sum_congr rfl fun r _ => ?_)
  unfold summand
  show _ * above (weightsOf m c r) k - _ * above (weightsOf m c r) (1 + k) = _
  rw [← mul_sub, ← above_sub, Nat.add_comm]

/-- The kernel's result is the expected calibration error. -/
theorem value_eq : finish (rowsAfter m c 124 (by decide)) (ix2 0 0) = ((ece (weightsOf m c) (label m c) : ℝ) : EReal) := by
  have h : ∀ q k, row (rowsAfter m c 124 (by decide)) q (ix2 0 k) = ((∑ r, summand m c q k r : ℝ) : EReal) :=
    fun q k => by rw [rowsAfter_apply m c q k 124, upTo_all]
  unfold finish
  rw [finish_apply, ece, ← sum_coe]
  refine sum_congr rfl fun k _ => ?_
  unfold binOf
  simp only [h, column_sub]
  have e := binError_coe (∑ r, within (weightsOf m c r) k) (∑ r, conf (weightsOf m c r) * within (weightsOf m c r) k)
    (∑ r, right (weightsOf m c r) (label m c r) * within (weightsOf m c r) k)
  simpa using e

end Cert.KernelIdeal.Ece

end
-- ==== Proof.RefRun.lean ====
/-
  What the reference program computes, as a function of its two arguments, and its run.

  The reference is a straight line of host operations. Its result is given here by named stages — the
  exponentials, the softmax, the confidences, the predicted classes, the bin edges, the membership of
  each row in each bin, the three sums of each bin, the error — so that each stage can be read by itself.
-/
module

public import proofs.«01_k».proof.Proof.Gen.ReferenceIdeal
public import Idealize.ShloMosaic.Lib.StableHlo.Run
public import Idealize.ShloMosaic.Lib.StableHlo.RunHlo
public import Idealize.ShloMosaic.Lib.StableHlo.RunRead
public import Idealize.ShloMosaic.Lib.Claim

@[expose] public section

noncomputable section

namespace Cert.ReferenceIdeal.Ece

open Cert.ReferenceIdeal Cert.ReferenceIdeal.Gen Idealize.ShloMosaic Idealize.ShloMosaic.TcCoe Idealize.SL.Sem
open Idealize.ShloMosaic.StableHlo

variable {F : FTy → Type} [FloatOps F]

/-- A vector over the rows, repeated along the classes. -/
def alongClasses (v : FVec F S1000000 .f32) : FVec F S1000000x100 .f32 :=
  broadcastInDim S1000000x100 ![0, 1] bcast_S1000000x1_S1000000x100_0_1
    (broadcastInDim S1000000x1 ![0] bcast_S1000000_S1000000x1_0 v)

/-- A vector over the rows, repeated along the bins. -/
def alongBins (v : FVec F S1000000 .f32) : FVec F S15x1000000 .f32 :=
  broadcastInDim S15x1000000 ![0, 1] bcast_S1x1000000_S15x1000000_0_1
    (broadcastInDim S1x1000000 ![1] bcast_S1000000_S1x1000000_1 v)

/-- A vector over the bins, repeated along the rows. -/
def alongRows (v : FVec F S15 .f32) : FVec F S15x1000000 .f32 :=
  broadcastInDim S15x1000000 ![0, 1] bcast_S15x1_S15x1000000_0_1
    (broadcastInDim S15x1 ![0] bcast_S15_S15x1_0 v)

/-- A constant, once per bin. -/
def perBin (w : BitVec 32) : FVec F S15 .f32 :=
  broadcastInDim S15 ![] bcast_S_S15 (constant S_ .f32 w)

/-- The greatest element of each row. -/
def rowMax (x : FVec F S1000000x100 .f32) : FVec F S1000000 .f32 :=
  Host.reduce FloatOps.maximumf x (constant S_ .f32 0xFF800000#32) reducesTo_S1000000x100_S1000000_d1 h_S_

/-- The exponentials of the logits, each row shifted by its greatest. -/
def exps (x : FVec F S1000000x100 .f32) : FVec F S1000000x100 .f32 :=
  Host.exp (subf x (alongClasses
    (maximumf (broadcastInDim S1000000 ![] bcast_S_S1000000 (constant S_ .f32 0xFF800000#32)) (rowMax x))))

/-- The softmax of each row. -/
def soft (x : FVec F S1000000x100 .f32) : FVec F S1000000x100 .f32 :=
  Host.divf (exps x) (alongClasses
    (Host.reduceAdd (exps x) (constant S_ .f32 0x00000000#32) reducesTo_S1000000x100_S1000000_d1 h_S_))

/-- Each row's confidence. -/
def conf (x : FVec F S1000000x100 .f32) : FVec F S1000000 .f32 := rowMax (soft x)

/-- Each row's greatest element and its class. -/
def argmaxOf (x : FVec F S1000000x100 .f32) : S1000000.Idx → F .f32 × BitVec 32 :=
  Host.argReduce reducer_argmax_f32_i32 x (iotaInDim S1000000x100 32 1) (constant S_ .f32 0xFF800000#32)
    (constantI S_ 32 0#32) reducesTo_S1000000x100_S1000000_d1 h_S_

/-- The class of each row's greatest element. -/
def classOf (x : FVec F S1000000x100 .f32) : IVec S1000000 32 := fun j => (argmaxOf x j).2

/-- Each row's predicted class. -/
def pred (x : FVec F S1000000x100 .f32) : IVec S1000000 32 := classOf (soft x)

/-- One where the prediction is the label, zero elsewhere. -/
def acc (x : FVec F S1000000x100 .f32) (l : IVec S1000000 32) : FVec F S1000000 .f32 :=
  uitofp .f32 (cmpi .eq (pred x) l)

/-- A scalar's value at each of the fifteen lower edges. -/
def perEdge (w : BitVec 32) : FVec F S15 .f32 :=
  broadcastInDim S15 ![0] bcast_S1_S15_0 (shapeCast S1 (constant (F := F) S_ .f32 w) shapeCasts_S_S1)

/-- The edges' place between 0 and 1: `i / 15`. -/
def steps : FVec F S15 .f32 := Host.divf (sitofp .f32 (iotaInDim S15 32 0)) (perBin 0x41700000#32)

/-- The sixteen edges of the bins. -/
def edges : FVec F S16 .f32 :=
  concatenate S16 0
    [⟨S15, addf (mulf (perEdge 0x00000000#32) (subf (perBin 0x3F800000#32) steps)) (mulf (perEdge 0x3F800000#32) steps)⟩,
     ⟨S1, broadcastInDim S1 ![] bcast_S_S1 (constant S_ .f32 0x3F800000#32)⟩]
    concatenates_S15_S1_S16_d0

/-- One where a row's confidence lies in a bin, zero elsewhere. -/
def inBin (x : FVec F S1000000x100 .f32) : FVec F S15x1000000 .f32 :=
  uitofp .f32 (andi
    (cmpf .ogt (alongBins (conf x)) (alongRows (extractStridedSlice S15 ![0] (edges (F := F)) slices_S16_S15_0)))
    (cmpf .ole (alongBins (conf x)) (alongRows (extractStridedSlice S15 ![1] (edges (F := F)) slices_S16_S15_1))))

/-- The sum over the rows, bin by bin. -/
def sumRows (v : FVec F S15x1000000 .f32) : FVec F S15 .f32 :=
  Host.reduceAdd v (constant S_ .f32 0x00000000#32) reducesTo_S15x1000000_S15_d1 h_S_

/-- How many rows lie in each bin. -/
def count (x : FVec F S1000000x100 .f32) : FVec F S15 .f32 := sumRows (inBin x)

/-- The divisor of a bin's means: its count, and one for an empty bin. -/
def denom (x : FVec F S1000000x100 .f32) : FVec F S15 .f32 := maximumf (count x) (perBin 0x3F800000#32)

/-- What each bin adds to the error. -/
def contrib (x : FVec F S1000000x100 .f32) (l : IVec S1000000 32) : FVec F S15 .f32 :=
  select (cmpf .ogt (count x) (perBin 0x00000000#32))
    (mulf
      (Host.absf (subf
        (Host.divf (sumRows (mulf (alongBins (conf x)) (inBin x))) (denom x))
        (Host.divf (sumRows (mulf (alongBins (acc x l)) (inBin x))) (denom x))))
      (Host.divf (count x) (perBin 0x49742400#32)))
    (perBin 0x00000000#32)

/-- The expected calibration error. -/
def ece (x : FVec F S1000000x100 .f32) (l : IVec S1000000 32) : FVec F S1x1 .f32 :=
  shapeCast S1x1 (Host.reduceAdd (contrib x l) (constant S_ .f32 0x00000000#32) reducesTo_S15_S_d0 h_S_) shapeCasts_S_S1x1

set_option maxRecDepth 16384 in
set_option maxHeartbeats 40000000 in
/-- From any memory, the reference ends with `ece` of its arguments in its result and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
          = ece (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  rfl

end Cert.ReferenceIdeal.Ece

end
-- ==== Proof.RefRead.lean ====
/-
  The stages of the reference read at an index, over the extended reals.
-/
module

public import proofs.«01_k».proof.Proof.RefRun
public import proofs.«01_k».proof.Proof.Spread
public import Idealize.ShloMosaic.Lib.Pointwise

@[expose] public section

set_option maxRecDepth 16384

noncomputable section

namespace Cert.ReferenceIdeal.Ece

open Cert.ReferenceIdeal Cert.ReferenceIdeal.Gen Idealize.ShloMosaic Idealize.ShloMosaic.TcCoe Idealize.SL.Sem
open Finset Cert.Ece

variable (x : FVec Ideal S1000000x100 .f32) (l : IVec S1000000 32)

theorem alongClasses_apply (v : FVec Ideal S1000000 .f32) (i : Fin 1000000) (j : Fin 100) :
    alongClasses v (ix2 i j) = v (ix1 i) := column_apply 1000000 100 (by norm_num) v _ _ i j

theorem alongBins_apply (v : FVec Ideal S1000000 .f32) (k : Fin 15) (i : Fin 1000000) :
    alongBins v (ix2 k i) = v (ix1 i) := line_apply 1000000 15 (by norm_num) v _ _ k i

theorem alongRows_apply (v : FVec Ideal S15 .f32) (k : Fin 15) (i : Fin 1000000) :
    alongRows v (ix2 k i) = v (ix1 k) := column_apply 15 1000000 (by norm_num) v _ _ k i

theorem rowMax_apply (i : Fin 1000000) :
    rowMax x (ix1 i) = univ.fold max (Ideal.ofBits .f32 0xFF800000#32) (fun j => x (ix2 i j)) := by
  pointwise [rowMax]

/-- The exponential of a logit, with the row's greatest taken off. -/
theorem exps_apply (i : Fin 1000000) (j : Fin 100) :
    exps x (ix2 i j) = Ideal.exp (x (ix2 i j) - max (Ideal.ofBits .f32 0xFF800000#32) (rowMax x (ix1 i))) := by
  have h : ∀ (g : FVec Ideal S1000000 .f32) (w : FVec Ideal S1000000x100 .f32),
      w (ix2 i j) = maximumf (broadcastInDim S1000000 ![] bcast_S_S1000000
        (constant (F := Ideal) S_ .f32 0xFF800000#32)) g (ix1 i) →
      Host.exp (subf x w) (ix2 i j)
        = Ideal.exp (x (ix2 i j) - max (Ideal.ofBits .f32 0xFF800000#32) (g (ix1 i))) := fun g w hw => by
    pointwise
    rw [hw]
    pointwise
  exact h (rowMax x) _ (alongClasses_apply _ i j)

theorem soft_apply (i : Fin 1000000) (j : Fin 100) :
    soft x (ix2 i j) = Ideal.div (exps x (ix2 i j)) (∑ k, exps x (ix2 i k)) := by
  have h : ∀ g w : FVec Ideal S1000000x100 .f32,
      w (ix2 i j) = Host.reduceAdd g (constant S_ .f32 0x00000000#32) reducesTo_S1000000x100_S1000000_d1 h_S_ (ix1 i) →
      Host.divf g w (ix2 i j) = Ideal.div (g (ix2 i j)) (∑ k, g (ix2 i k)) := fun g w hw => by
    pointwise
    rw [hw]
    pointwise
  exact h (exps x) _ (alongClasses_apply _ i j)

theorem acc_apply (i : Fin 1000000) :
    acc x l (ix1 i) = FloatOps.uitofp .f32 (IntOp.cmpi .eq (pred x (ix1 i)) (l (ix1 i))) := by
  have h : ∀ p : IVec S1000000 32, uitofp (F := Ideal) .f32 (cmpi .eq p l) (ix1 i)
      = FloatOps.uitofp .f32 (IntOp.cmpi .eq (p (ix1 i)) (l (ix1 i))) := fun p => by
    pointwise
  exact h (pred x)

/-- A lower edge of a bin. -/
theorem edges_apply (k : Fin 15) : (edges (F := Ideal)) (ix1 ⟨k.val, by omega⟩)
    = 0 * (1 - Ideal.div (FloatOps.sitofp (F := Ideal) .f32 (BitVec.ofNat 32 k.val)) (Ideal.ofBits .f32 0x41700000#32))
      + Ideal.div (FloatOps.sitofp (F := Ideal) .f32 (BitVec.ofNat 32 k.val)) (Ideal.ofBits .f32 0x41700000#32) := by
  pointwise [edges, perEdge, perBin, steps]

/-- The last edge. -/
theorem edges_last : (edges (F := Ideal)) (ix1 ⟨15, by omega⟩) = 1 := by
  pointwise [edges, perEdge, perBin, steps]

theorem inBin_apply (k : Fin 15) (i : Fin 1000000) : inBin x (ix2 k i)
    = FloatOps.uitofp .f32 (IntOp.andi
        (BitVec.ofBool (decide ((edges (F := Ideal)) (ix1 ⟨k.val, by omega⟩) < conf x (ix1 i))))
        (BitVec.ofBool (decide (conf x (ix1 i) ≤ (edges (F := Ideal)) (ix1 ⟨1 + k.val, by omega⟩))))) := by
  have h : ∀ (p : FVec Ideal S1000000 .f32) (e : FVec Ideal S16 .f32) (P E0 E1 : FVec Ideal S15x1000000 .f32),
      P (ix2 k i) = p (ix1 i) → E0 (ix2 k i) = extractStridedSlice S15 ![0] e slices_S16_S15_0 (ix1 k) →
      E1 (ix2 k i) = extractStridedSlice S15 ![1] e slices_S16_S15_1 (ix1 k) →
      uitofp (F := Ideal) .f32 (andi (cmpf .ogt P E0) (cmpf .ole P E1)) (ix2 k i)
        = FloatOps.uitofp .f32 (IntOp.andi
          (BitVec.ofBool (decide (e (ix1 ⟨k.val, by omega⟩) < p (ix1 i))))
          (BitVec.ofBool (decide (p (ix1 i) ≤ e (ix1 ⟨1 + k.val, by omega⟩))))) := fun p e P E0 E1 h h0 h1 => by
    pointwise
    rw [h, h0, h1]
    pointwise
  exact h (conf x) (edges (F := Ideal)) _ _ _ (alongBins_apply _ k i) (alongRows_apply _ k i) (alongRows_apply _ k i)

theorem sumRows_apply (v : FVec Ideal S15x1000000 .f32) (k : Fin 15) :
    sumRows v (ix1 k) = ∑ r, v (ix2 k r) := by
  pointwise [sumRows]

/-- The sum over the rows of a vector's values in a bin. -/
theorem sumRows_alongBins_apply (v : FVec Ideal S1000000 .f32) (b : FVec Ideal S15x1000000 .f32) (k : Fin 15) :
    sumRows (mulf (alongBins v) b) (ix1 k) = ∑ r, v (ix1 r) * b (ix2 k r) := by
  rw [sumRows_apply]
  have h : ∀ (w : FVec Ideal S15x1000000 .f32) (r : Fin 1000000), w (ix2 k r) = v (ix1 r) →
      mulf w b (ix2 k r) = v (ix1 r) * b (ix2 k r) := fun w r hw => by
    pointwise
    rw [hw]
  exact sum_congr rfl fun r _ => h (alongBins v) r (alongBins_apply v k r)

/-- What a bin adds to the error. -/
theorem contrib_apply (k : Fin 15) : contrib x l (ix1 k)
    = if 0 < ∑ r, inBin x (ix2 k r) then
        FloatOps.absf (F := Ideal) (φ := .f32) (Ideal.div (∑ r, conf x (ix1 r) * inBin x (ix2 k r)) (max (∑ r, inBin x (ix2 k r)) 1)
          - Ideal.div (∑ r, acc x l (ix1 r) * inBin x (ix2 k r)) (max (∑ r, inBin x (ix2 k r)) 1))
        * Ideal.div (∑ r, inBin x (ix2 k r)) (Ideal.ofBits .f32 0x49742400#32)
      else 0 := by
  have h : ∀ n s a : FVec Ideal S15 .f32,
      select (cmpf .ogt n (perBin 0x00000000#32))
        (mulf (Host.absf (subf (Host.divf s (maximumf n (perBin 0x3F800000#32)))
          (Host.divf a (maximumf n (perBin 0x3F800000#32))))) (Host.divf n (perBin 0x49742400#32)))
        (perBin 0x00000000#32) (ix1 k)
      = if 0 < n (ix1 k) then
          FloatOps.absf (F := Ideal) (φ := .f32) (Ideal.div (s (ix1 k)) (max (n (ix1 k)) 1) - Ideal.div (a (ix1 k)) (max (n (ix1 k)) 1))
            * Ideal.div (n (ix1 k)) (Ideal.ofBits .f32 0x49742400#32)
        else 0 := fun n s a => by
    pointwise [perBin]
  rw [← sumRows_apply, ← sumRows_alongBins_apply (conf x), ← sumRows_alongBins_apply (acc x l)]
  exact h (sumRows (inBin x)) (sumRows (mulf (alongBins (conf x)) (inBin x)))
    (sumRows (mulf (alongBins (acc x l)) (inBin x)))

/-- The error is the sum over the bins. -/
theorem ece_apply : ece x l (ix2 0 0) = ∑ k, contrib x l (ix1 k) := by
  have h : ∀ c : FVec Ideal S15 .f32,
      shapeCast S1x1 (Host.reduceAdd c (constant S_ .f32 0x00000000#32) reducesTo_S15_S_d0 h_S_) shapeCasts_S_S1x1
        (ix2 0 0) = ∑ k, c (ix1 k) := fun c => by
    pointwise
  exact h (contrib x l)

end Cert.ReferenceIdeal.Ece

end
-- ==== Proof.ArgMax.lean ====
/-
  The class an arg-max over a row of a hundred classes picks: the first of those with the greatest value.
-/
module

public import proofs.«01_k».proof.Proof.Spec
public import Idealize.ShloMosaic.PureOps.Ideal.Laws
public import Idealize.ShloMosaic.Lib.Pointwise
public import Idealize.ShloMosaic.Lib.Affine

@[expose] public section

namespace Cert.Ece

open Idealize.ShloMosaic

/-- The better of two candidates, a value and its class each: the greater value, and of equal values the lesser
    class. -/
noncomputable def better (a b : EReal × BitVec 32) : EReal × BitVec 32 :=
  if b.1 < a.1 ∨ (a.1 = b.1 ∧ a.2.toInt < b.2.toInt) then a else b

/-- A candidate another one does not beat. -/
def Beats (p q : EReal × BitVec 32) : Prop := q.1 ≤ p.1 ∧ (q.1 = p.1 → p.2.toInt ≤ q.2.toInt)

theorem Beats.refl (p : EReal × BitVec 32) : Beats p p := ⟨le_rfl, fun _ => le_rfl⟩

theorem Beats.trans {p q r : EReal × BitVec 32} (h : Beats p q) (h' : Beats q r) : Beats p r :=
  ⟨h'.1.trans h.1, fun e => by
    have e1 : q.1 = p.1 := le_antisymm h.1 (e ▸ h'.1)
    exact (h.2 e1).trans (h'.2 (e.trans e1.symm))⟩

theorem better_mem (a b : EReal × BitVec 32) : better a b = a ∨ better a b = b := by
  unfold better; split
  · exact Or.inl rfl
  · exact Or.inr rfl

theorem better_left (a b : EReal × BitVec 32) : Beats (better a b) a := by
  unfold better; split
  · exact Beats.refl a
  · next h =>
    exact ⟨not_lt.1 fun e => h (Or.inl e), fun e => not_lt.1 fun e' => h (Or.inr ⟨e, e'⟩)⟩

theorem better_right (a b : EReal × BitVec 32) : Beats (better a b) b := by
  unfold better; split
  · next h =>
    rcases h with h | ⟨h, h'⟩
    · exact ⟨h.le, fun e => absurd e h.ne⟩
    · exact ⟨h.ge, fun _ => h'.le⟩
  · exact Beats.refl b

/-- The running best of a list is the start or in the list, and nothing beats it. -/
theorem foldl_better : ∀ (L : List (EReal × BitVec 32)) (p : EReal × BitVec 32),
    (L.foldl better p = p ∨ L.foldl better p ∈ L) ∧ Beats (L.foldl better p) p ∧ ∀ q ∈ L, Beats (L.foldl better p) q
  | [], p => ⟨Or.inl rfl, Beats.refl p, fun _ h => absurd h List.not_mem_nil⟩
  | b :: L, p => by
    obtain ⟨h, hp, hL⟩ := foldl_better L (better p b)
    rw [List.foldl_cons]
    refine ⟨?_, hp.trans (better_left p b), fun q hq => ?_⟩
    · rcases h with h | h
      · rcases better_mem p b with e | e
        · exact Or.inl (h.trans e)
        · exact Or.inr (List.mem_cons.2 (Or.inl (h.trans e)))
      · exact Or.inr (List.mem_cons_of_mem _ h)
    · rcases List.mem_cons.1 hq with rfl | hq
      · exact hp.trans (better_right p q)
      · exact hL q hq

/-- A class is the first of those with the greatest value of a row. -/
def FirstTop {α : Type} [LE α] (y : Fin 100 → α) (w : BitVec 32) : Prop :=
  ∃ j : Fin 100, w = BitVec.ofNat 32 j.val ∧ (∀ i, y i ≤ y j) ∧ ∀ i, y j ≤ y i → j ≤ i

/-- Two rows in the same order have the same first class of the greatest. -/
theorem FirstTop.congr {α β : Type} [LE α] [LE β] {y : Fin 100 → α} {z : Fin 100 → β} {w : BitVec 32}
    (h : FirstTop y w) (e : ∀ i j, z i ≤ z j ↔ y i ≤ y j) : FirstTop z w := by
  obtain ⟨j, hw, hj, hj'⟩ := h
  exact ⟨j, hw, fun i => (e i j).2 (hj i), fun i hi => hj' i ((e j i).1 hi)⟩

theorem toInt_class (j : Fin 100) : (BitVec.ofNat 32 j.val).toInt = (j.val : ℤ) := by revert j; decide

/-- Two classes each the first of the greatest are the same. -/
theorem FirstTop.unique {α : Type} [LE α] {y : Fin 100 → α} {v w : BitVec 32} (h : FirstTop y v) (h' : FirstTop y w) :
    v = w := by
  obtain ⟨j, rfl, hj, hj'⟩ := h
  obtain ⟨i, rfl, hi, hi'⟩ := h'
  rw [le_antisymm (hj' i (hi j)) (hi' j (hj i))]

/-- The indices that a reduction over the classes takes into a row are the row's. -/
theorem drop_eq_iff (n : ℕ) (h : (⟨2, ![n, 100]⟩ : Shape).ReducesTo [1] ⟨1, ![n]⟩) (i : Fin n) (j : Fin 100) (r : Fin n) :
    h.drop (ix2 i j) = ix1 r ↔ i = r := by
  simp [funext_iff, Fin.ext_iff, Fin.forall_fin_one, h.drop_apply_val_of_eq (ix2 i j) 0 0 Nat.zero_lt_one rfl]

/-- An arg-max over the classes of a row that is not all `−∞` is the first class with the greatest value. -/
theorem argReduce_firstTop (n : ℕ) {u : Shape} (f : Ideal .f32 × BitVec 32 → Ideal .f32 × BitVec 32 → Ideal .f32 × BitVec 32)
    (hf : f = better) (x : FVec Ideal ⟨2, ![n, 100]⟩ .f32) (w : IVec ⟨2, ![n, 100]⟩ 32) (ix : FVec Ideal u .f32)
    (iw : IVec u 32) (h : (⟨2, ![n, 100]⟩ : Shape).ReducesTo [1] ⟨1, ![n]⟩) (hu : 0 < u.numel)
    (hix : ix (Shape.Idx.first hu) = (⊥ : EReal)) (hw : ∀ i j, w (ix2 i j) = BitVec.ofNat 32 j.val) (r : Fin n)
    (y : Fin 100 → EReal) (hy : ∃ j, y j ≠ ⊥) (hx : ∀ j, x (ix2 r j) = y j) :
    FirstTop y (Host.argReduce (F := Ideal) (φ := .f32) f x w ix iw h hu (ix1 r)).2 := by
  rw [Ideal.argReduce_eq_reduce2, Host.reduce2_eq_foldl_fiber, hix, hf]
  obtain ⟨hm, -, hb⟩ := foldl_better (Host.argReduceFiber x w h (ix1 r)) (⊥, iw (Shape.Idx.first hu))
  generalize hp : (Host.argReduceFiber x w h (ix1 r)).foldl better (⊥, iw (Shape.Idx.first hu)) = p at hm hb ⊢
  have mem : ∀ j : Fin 100, (y j, BitVec.ofNat 32 j.val) ∈ Host.argReduceFiber x w h (ix1 r) :=
    fun j => by
      refine List.mem_map.2 ⟨(⟨2, ![n, 100]⟩ : Shape).rowMajor (ix2 r j), List.mem_filter.2 ⟨List.mem_finRange _, ?_⟩, ?_⟩
      · rw [Equiv.symm_apply_apply]
        exact decide_eq_true ((drop_eq_iff n h r j r).2 rfl)
      · rw [Equiv.symm_apply_apply, hx, hw]
  have of_mem : p ∈ Host.argReduceFiber x w h (ix1 r) → ∃ j : Fin 100, p = (y j, BitVec.ofNat 32 j.val) :=
    fun hp => by
      obtain ⟨k, hk, rfl⟩ := List.mem_map.1 hp
      have hd := of_decide_eq_true (List.mem_filter.1 hk).2
      generalize (⟨2, ![n, 100]⟩ : Shape).rowMajor.symm k = i at hd ⊢
      obtain ⟨a, b, rfl⟩ : ∃ (a : Fin n) (b : Fin 100), i = ix2 a b := ⟨i 0, i 1, eq_ix2 i⟩
      obtain rfl := (drop_eq_iff n h a b r).1 hd
      exact ⟨b, by rw [hx, hw]⟩
  have hj : ∃ j : Fin 100, p = (y j, BitVec.ofNat 32 j.val) := by
    rcases hm with hm | hm
    · obtain ⟨j, hj⟩ := hy
      have := (hb _ (mem j)).1
      rw [hm] at this
      exact absurd (le_bot_iff.1 this) hj
    · exact of_mem hm
  obtain ⟨j, rfl⟩ := hj
  have hle : ∀ i, y i ≤ y j := fun i => (hb _ (mem i)).1
  refine ⟨j, rfl, hle, fun i hi => ?_⟩
  have := (hb _ (mem i)).2 (le_antisymm (hle i) hi)
  rw [toInt_class, toInt_class] at this
  exact Fin.le_def.2 (by exact_mod_cast this)

/-- The comparison an arg-max is printed with picks the better candidate. -/
theorem pick_eq (a b : EReal × BitVec 32) :
    ((Scalar.select (IntOp.ori (FloatOps.cmpf (F := Ideal) (φ := .f32) .ogt a.1 b.1)
          (FloatOps.cmpf (F := Ideal) (φ := .f32) .une a.1 a.1)) a.1 b.1 : EReal),
      Scalar.select (IntOp.ori (IntOp.ori (FloatOps.cmpf (F := Ideal) (φ := .f32) .ogt a.1 b.1)
          (FloatOps.cmpf (F := Ideal) (φ := .f32) .une a.1 a.1))
        (IntOp.andi (FloatOps.cmpf (F := Ideal) (φ := .f32) .oeq a.1 b.1) (IntOp.cmpi .slt a.2 b.2))) a.2 b.2)
      = better a b := by
  have h1 : FloatOps.cmpf (F := Ideal) (φ := .f32) .ogt a.1 b.1 = BitVec.ofBool (decide (b.1 < a.1)) := by
    simp [Ideal.cmpf_def, Ideal.cmp]
  have h2 : FloatOps.cmpf (F := Ideal) (φ := .f32) .une a.1 a.1 = 0#1 := by simp [Ideal.cmpf_def, Ideal.cmp]
  have h3 : FloatOps.cmpf (F := Ideal) (φ := .f32) .oeq a.1 b.1 = BitVec.ofBool (decide (a.1 = b.1)) := by
    simp [Ideal.cmpf_def, Ideal.cmp]
  have h4 : IntOp.cmpi .slt a.2 b.2 = BitVec.ofBool (decide (a.2.toInt < b.2.toInt)) := by
    simp only [IntOp.cmpi, BitVec.slt]
  rw [h1, h2, h3, h4]
  unfold better
  obtain ⟨a1, a2⟩ := a
  obtain ⟨b1, b2⟩ := b
  by_cases p : b1 < a1
  · have q : a1 ≠ b1 := p.ne'
    simp [p, q, Scalar.select, IntOp.ori, IntOp.andi]
  · by_cases q : a1 = b1 <;> by_cases r : a2.toInt < b2.toInt <;>
      simp [p, q, r, Scalar.select, IntOp.ori, IntOp.andi]

end Cert.Ece
-- ==== Proof.RefValue.lean ====
/-
  The reference's result, where its predictions agree with the marks of rightness.
-/
module

public import proofs.«01_k».proof.Proof.RefRead
public import proofs.«01_k».proof.Proof.ArgMax

@[expose] public section

set_option maxRecDepth 16384

noncomputable section

namespace Cert.ReferenceIdeal.Ece

open Cert.ReferenceIdeal Cert.ReferenceIdeal.Gen Idealize.ShloMosaic Idealize.ShloMosaic.TcCoe Idealize.SL.Sem
open Finset Cert.Ece

/-- The comparison the arg-max is printed with picks the better candidate. -/
theorem reducer_eq : reducer_argmax_f32_i32 (F := Ideal) = better := funext fun a => funext fun b => pick_eq a b

/-- The class of the greatest element of a row of real numbers is the first such class. -/
theorem classOf_firstTop (g : FVec Ideal S1000000x100 .f32) (i : Fin 1000000) (y : Fin 100 → ℝ)
    (hg : ∀ j, g (ix2 i j) = ((y j : ℝ) : EReal)) : FirstTop y (classOf g (ix1 i)) := by
  have hw : ∀ (i : Fin 1000000) (j : Fin 100), iotaInDim S1000000x100 32 1 (ix2 i j) = BitVec.ofNat 32 j.val :=
    fun i j => by pointwise
  have hb : ∀ j, (constant (F := Ideal) S_ .f32 0xFF800000#32 j : EReal) = ⊥ := fun j => lit_bot
  have key : ∀ (f : Ideal .f32 × BitVec 32 → Ideal .f32 × BitVec 32 → Ideal .f32 × BitVec 32), f = better →
      ∀ (w : IVec S1000000x100 32), (∀ (i : Fin 1000000) (j : Fin 100), w (ix2 i j) = BitVec.ofNat 32 j.val) →
      ∀ (ix : FVec Ideal S_ .f32), (∀ j, (ix j : EReal) = ⊥) → ∀ (iw : IVec S_ 32) (v : IVec S1000000 32),
      v = (fun j => (Host.argReduce f g w ix iw reducesTo_S1000000x100_S1000000_d1 h_S_ j).2) →
      FirstTop (fun j => ((y j : ℝ) : EReal)) (v (ix1 i)) := fun f hf w hw ix hix iw v e => by
    rw [e]
    exact argReduce_firstTop 1000000 f hf g w ix iw reducesTo_S1000000x100_S1000000_d1 h_S_ (hix _) hw i
      (fun j => ((y j : ℝ) : EReal)) ⟨0, EReal.coe_ne_bot _⟩ hg
  have e : classOf g = fun j => (Host.argReduce (reducer_argmax_f32_i32 (F := Ideal)) g (iotaInDim S1000000x100 32 1)
      (constant S_ .f32 0xFF800000#32) (constantI S_ 32 0#32) reducesTo_S1000000x100_S1000000_d1 h_S_ j).2 := by
    unfold classOf argmaxOf
    rfl
  exact (key _ reducer_eq _ hw _ hb _ _ e).congr fun _ _ => EReal.coe_le_coe_iff.symm

/-- The softmax of a row: each weight's part in their sum. -/
def probs (w : Fin 100 → ℝ) (j : Fin 100) : ℝ := w j / mass w

section
variable (x : FVec Ideal S1000000x100 .f32) (l : IVec S1000000 32) (i : Fin 1000000) (y : Fin 100 → EReal)
  (hx : ∀ j, x (ix2 i j) = y j)
include hx

theorem exps_real (hy : Proper y) : ∃ t : ℝ, ∀ j, exps x (ix2 i j) = ((weights y j / Real.exp t : ℝ) : EReal) := by
  obtain ⟨k, t, hk, hle⟩ := exists_greatest y hy
  refine ⟨t, fun j => ?_⟩
  have h : rowMax x (ix1 i) = (t : EReal) := by
    rw [rowMax_apply, lit_bot, ← hk, ← fold_max_eq y k hle]
    simp only [hx]
  rw [exps_apply, h, lit_bot, max_eq_right bot_le, hx, exp_sub_weights y hy]

/-- The reference's softmax. -/
theorem soft_real (hy : Proper y) (j : Fin 100) : soft x (ix2 i j) = ((probs (weights y) j : ℝ) : EReal) := by
  obtain ⟨t, h⟩ := exps_real x i y hx hy
  have hs : (∑ k, weights y k / Real.exp t) = mass (weights y) / Real.exp t := (sum_div _ _ _).symm
  rw [soft_apply]
  simp only [h]
  rw [sum_coe, hs, div_coe _ _ (div_pos (mass_pos y hy) (Real.exp_pos t)).ne',
    div_div_div_cancel_right₀ (Real.exp_pos t).ne']
  rfl

/-- The softmax of a row that has none: `−∞` at every class. -/
theorem soft_improper (hy : ¬ Proper y) (j : Fin 100) : soft x (ix2 i j) = (⊥ : EReal) := by
  have h : ∀ k, exps x (ix2 i k) = (0 : EReal) := fun k => by
    rw [exps_apply, rowMax_apply, lit_bot, max_eq_right bot_le]
    simp only [hx]
    rw [sub_greatest_improper y hy]
    rfl
  rw [soft_apply]
  simp only [h]
  rw [sum_const_zero, Ideal.div, if_pos rfl, if_neg (lt_irrefl _)]

/-- The reference's confidences. -/
theorem conf_real (hy : Proper y) : conf x (ix1 i) = ((Cert.Ece.conf (weights y) : ℝ) : EReal) := by
  unfold conf
  rw [rowMax_apply, lit_bot]
  simp only [soft_real x i y hx hy]
  rw [fold_max_coe]
  exact congrArg _ (top_div (weights y) _ (mass_pos y hy))

/-- The confidence of a row that has no softmax: `−∞`. -/
theorem conf_bot (hy : ¬ Proper y) : conf x (ix1 i) = (⊥ : EReal) := by
  unfold conf
  rw [rowMax_apply, lit_bot]
  simp only [soft_improper x i y hx hy]
  exact fold_max_eq (fun _ => ⊥) 0 fun _ => le_rfl

/-- The reference's predictions. -/
theorem pred_firstTop (hy : Proper y) : FirstTop (weights y) (pred x (ix1 i)) :=
  (classOf_firstTop (soft x) i (probs (weights y)) (soft_real x i y hx hy)).congr fun _ _ =>
    (div_le_div_iff_of_pos_right (mass_pos y hy)).symm

/-- The reference's marks of rightness, where no label is a later one of several greatest. -/
theorem acc_real (hy : Proper y)
    (hl : ∀ j : Fin 100, BitVec.ofNat 32 j.val = l (ix1 i) → (∀ k, y k ≤ y j) → FirstTop y (l (ix1 i))) :
    acc x l (ix1 i) = ((right (weights y) (l (ix1 i)) : ℝ) : EReal) := by
  have hp := pred_firstTop x i y hx hy
  rw [acc_apply]
  unfold right
  by_cases h : pred x (ix1 i) = l (ix1 i)
  · rw [IntOp.cmpi_eq.2 h, if_pos]
    · show (((1#1 : BitVec 1).toNat : ℝ) : EReal) = _
      simp
    · obtain ⟨j, hj, ht, -⟩ := hp
      exact ⟨j, hj.symm.trans h, (top_eq _ _ j rfl ht).symm⟩
  · rw [show IntOp.cmpi .eq (pred x (ix1 i)) (l (ix1 i)) = 0#1 from congrArg BitVec.ofBool (beq_eq_false_iff_ne.2 h),
      if_neg]
    · show (((0#1 : BitVec 1).toNat : ℝ) : EReal) = _
      simp
    · rintro ⟨j, hj, ht⟩
      have hj' : ∀ k, y k ≤ y j := fun k => (weights_le_iff y hy k j).1 (ht ▸ Cert.Ece.le_top (weights y) k)
      exact h (hp.unique ((hl j hj hj').congr (weights_le_iff y hy)))

end

/-- The edges of the bins are `0, 1/15, …, 1`. -/
theorem edges_real (k : Fin 16) : (edges (F := Ideal)) (ix1 k) = (((k.val : ℝ) / 15 : ℝ) : EReal) := by
  by_cases hk : k.val < 15
  · have e := edges_apply ⟨k.val, hk⟩
    have h : (FloatOps.sitofp (F := Ideal) .f32 (BitVec.ofNat 32 k.val) : EReal) = ((k.val : ℝ) : EReal) := by
      show (((BitVec.ofNat 32 k.val).toInt : ℝ) : EReal) = _
      rw [show (BitVec.ofNat 32 k.val).toInt = (k.val : ℤ) by clear e hk; revert k; decide, Int.cast_natCast]
    refine e.trans ?_
    rw [h, lit_fifteen, div_coe _ _ (by norm_num), zero_mul, zero_add]
  · have hk' : k = ⟨15, by omega⟩ := Fin.ext (by have := k.isLt; show k.val = 15; omega)
    rw [hk', edges_last]
    norm_num

section
variable (x : FVec Ideal S1000000x100 .f32) (l : IVec S1000000 32)

/-- The weights of a row's logits. -/
def weightsOf (r : Fin 1000000) : Fin 100 → ℝ := weights fun j => x (ix2 r j)

/-- The reference's membership of a row in a bin. -/
theorem inBin_real (k : Fin 15) (r : Fin 1000000) : inBin x (ix2 k r) = ((within (weightsOf x r) k : ℝ) : EReal) := by
  have hu : (edges (F := Ideal)) (ix1 ⟨1 + k.val, by omega⟩) = ((((k.val + 1 : ℕ) : ℝ) / 15 : ℝ) : EReal) := by
    refine (edges_real _).trans ?_
    show (((1 + k.val : ℕ) : ℝ) / 15 : ℝ) = (_ : EReal)
    rw [Nat.add_comm]
  have hout : ∀ b : BitVec 1, (FloatOps.uitofp (F := Ideal) .f32 (IntOp.andi (BitVec.ofBool false) b) : EReal) = ((0 : ℝ) : EReal) :=
    fun b => by
      rw [show IntOp.andi (BitVec.ofBool false) b = 0#1 by revert b; decide]
      show (((0#1 : BitVec 1).toNat : ℝ) : EReal) = _
      simp
  rw [inBin_apply, edges_real, hu]
  unfold weightsOf
  by_cases hy : Proper fun j => x (ix2 r j)
  · rw [conf_real x r _ (fun _ => rfl) hy]
    unfold within
    generalize Cert.Ece.conf (weights fun j => x (ix2 r j)) = t
    by_cases h1 : (k.val : ℝ) / 15 < t
    · by_cases h2 : t ≤ ((k.val + 1 : ℕ) : ℝ) / 15
      · rw [if_pos ⟨h1, h2⟩, decide_eq_true (EReal.coe_lt_coe_iff.2 h1),
          decide_eq_true (EReal.coe_le_coe_iff.2 h2)]
        show (((1#1 : BitVec 1).toNat : ℝ) : EReal) = _
        simp
      · rw [if_neg fun h => h2 h.2, decide_eq_true (EReal.coe_lt_coe_iff.2 h1),
          decide_eq_false fun h => h2 (EReal.coe_le_coe_iff.1 h)]
        show (((0#1 : BitVec 1).toNat : ℝ) : EReal) = _
        simp
    · rw [if_neg fun h => h1 h.1, decide_eq_false fun h => h1 (EReal.coe_lt_coe_iff.1 h)]
      exact hout _
  · rw [conf_bot x r _ (fun _ => rfl) hy, within_improper _ hy, decide_eq_false not_lt_bot]
    exact hout _

theorem mul_coe_zero (a : EReal) : a * ((0 : ℝ) : EReal) = ((0 : ℝ) : EReal) := mul_zero a

/-- A row's confidence, counted in its bin. -/
theorem conf_inBin_real (k : Fin 15) (r : Fin 1000000) : conf x (ix1 r) * inBin x (ix2 k r)
    = ((Cert.Ece.conf (weightsOf x r) * within (weightsOf x r) k : ℝ) : EReal) := by
  rw [inBin_real]
  unfold weightsOf
  by_cases hy : Proper fun j => x (ix2 r j)
  · rw [conf_real x r _ (fun _ => rfl) hy, EReal.coe_mul]
  · rw [within_improper _ hy, mul_zero]
    exact mul_coe_zero _

/-- A row's rightness, counted in its bin. -/
theorem acc_inBin_real (k : Fin 15) (r : Fin 1000000)
    (hl : ∀ j : Fin 100, BitVec.ofNat 32 j.val = l (ix1 r) → (∀ k, x (ix2 r k) ≤ x (ix2 r j)) →
      (∃ k, x (ix2 r k) ≠ (⊥ : EReal)) → FirstTop (fun j => x (ix2 r j)) (l (ix1 r))) :
    acc x l (ix1 r) * inBin x (ix2 k r)
    = ((right (weightsOf x r) (l (ix1 r)) * within (weightsOf x r) k : ℝ) : EReal) := by
  rw [inBin_real]
  unfold weightsOf
  by_cases hy : Proper fun j => x (ix2 r j)
  · rw [acc_real x l r _ (fun _ => rfl) hy fun j hj ht => hl j hj ht hy.2, EReal.coe_mul]
  · rw [within_improper _ hy, mul_zero]
    exact mul_coe_zero _

/-- The reference's result is the expected calibration error. -/
theorem value_eq (hl : ∀ r (j : Fin 100), BitVec.ofNat 32 j.val = l (ix1 r) → (∀ k, x (ix2 r k) ≤ x (ix2 r j)) →
      (∃ k, x (ix2 r k) ≠ (⊥ : EReal)) → FirstTop (fun j => x (ix2 r j)) (l (ix1 r))) :
    ece x l (ix2 0 0) = ((Cert.Ece.ece (weightsOf x) (fun r => l (ix1 r)) : ℝ) : EReal) := by
  rw [ece_apply, Cert.Ece.ece, ← sum_coe]
  refine sum_congr rfl fun k _ => ?_
  rw [contrib_apply]
  rw [sum_congr rfl fun r _ => conf_inBin_real x k r, sum_congr rfl fun r _ => acc_inBin_real x l k r (hl r),
    sum_congr rfl fun r _ => inBin_real x k r, sum_coe, sum_coe, sum_coe]
  exact binError_coe _ _ _

end

end Cert.ReferenceIdeal.Ece

end
-- ==== Proof.Pre.lean ====
/-
  What the precondition says: where the label's logit is the greatest of its row, the label is the class an arg-max over
  the row picks. And that class is the first with the greatest logit, in a row that is not all `−∞`.
-/
module

public import proofs.«01_k».proof.Proof.ArgMax
public import proofs.«01_k».proof.Proof.Spread
public import proofs.«01_k».proof.Pre_label_not_a_later_tie
public import Idealize.ShloMosaic.Lib.Routing.OpsOrder

@[expose] public section

set_option maxRecDepth 16384

noncomputable section

namespace Cert.Pre_label_not_a_later_tie

open Idealize.ShloMosaic Finset Cert.Ece

variable [Facts]
open Facts

/-- A vector over the rows, repeated along the classes. -/
def alongClasses {α : Type} (v : S1000000.Idx → α) : S1000000x100.Idx → α :=
  broadcastInDim S1000000x100 ![0, 1] bcast_S1000000x1_S1000000x100_0_1
    (broadcastInDim S1000000x1 ![0] bcast_S1000000_S1000000x1_0 v)

theorem alongClasses_apply {α : Type} (v : S1000000.Idx → α) (i : Fin 1000000) (j : Fin 100) :
    alongClasses v (ix2 i j) = v (ix1 i) := column_apply 1000000 100 (by norm_num) v _ _ i j

variable (x : FVec Ideal S1000000x100 .f32) (l : IVec S1000000 32)

/-- The greatest logit of each row. -/
def rowMax : FVec Ideal S1000000 .f32 :=
  Host.reduce FloatOps.maximumf x (constant S_ .f32 0xFF800000#32) reducesTo_S1000000x100_S1000000_d1 h_S_

/-- Where the label's logit is the greatest of its row, and the label is not the first such class. -/
def laterTie : IVec S1000000x100 1 :=
  andi (andi (cmpf .oeq x (alongClasses (rowMax x))) (cmpi .eq (iotaInDim S1000000x100 32 1) (alongClasses l)))
    (cmpi .ne (iotaInDim S1000000x100 32 1) (alongClasses (fn_argmax x)))

theorem fn_eq : fn x l
    = noti (Host.reduce IntOp.ori (laterTie x l) (constantI S_ 1 0#1) reducesTo_S1000000x100_S_d0_1 h_S_) := rfl

instance : Subsingleton S_.Idx := ⟨fun a b => funext fun k => k.elim0⟩

/-- A negation that is 1 is of a bit that is not 1. -/
theorem noti_eq_one (v : IVec S_ 1) (j : S_.Idx) (h : noti v j = 1#1) : v j ≠ 1#1 := fun e => by
  have : noti v j = 0#1 := by
    show ~~~(v j) = 0#1
    rw [e]; decide
  rw [this] at h
  exact absurd h (by decide)

/-- The precondition, element by element. -/
theorem elements (h : fn x l = fun _ => 1#1) (i : S1000000x100.Idx) : laterTie x l i ≠ 1#1 := fun hi => by
  have h0 := congrFun ((fn_eq x l).symm.trans h) (Shape.Idx.first h_S_)
  refine noti_eq_one _ _ h0 ?_
  rw [Host.reduce_eq_fold]
  exact (Routing.fold_ori _ _).2 ⟨i, mem_filter.2 ⟨mem_univ i, Subsingleton.elim _ _⟩, hi⟩

/-- The comparison the arg-max is printed with picks the better candidate. -/
theorem reducer_eq : reducer_argmax_f32_i32 (F := Ideal) = better := funext fun a => funext fun b => pick_eq a b

variable (i : Fin 1000000) (y : Fin 100 → EReal) (hx : ∀ j, x (ix2 i j) = y j)
include hx

/-- The arg-max of a row that is not all `−∞` is the first class with the greatest logit. -/
theorem argmax_firstTop (hy : ∃ j, y j ≠ ⊥) : FirstTop y (fn_argmax x (ix1 i)) := by
  have hw : ∀ (i : Fin 1000000) (j : Fin 100), iotaInDim S1000000x100 32 1 (ix2 i j) = BitVec.ofNat 32 j.val :=
    fun i j => by pointwise
  have hb : ∀ j, (constant (F := Ideal) S_ .f32 0xFF800000#32 j : EReal) = ⊥ := fun j => lit_bot
  have key : ∀ (f : Ideal .f32 × BitVec 32 → Ideal .f32 × BitVec 32 → Ideal .f32 × BitVec 32), f = better →
      ∀ (w : IVec S1000000x100 32), (∀ (i : Fin 1000000) (j : Fin 100), w (ix2 i j) = BitVec.ofNat 32 j.val) →
      ∀ (ix : FVec Ideal S_ .f32), (∀ j, (ix j : EReal) = ⊥) → ∀ iw : IVec S_ 32,
      FirstTop y ((fun j => (Host.argReduce f x w ix iw reducesTo_S1000000x100_S1000000_d1 h_S_ j).2) (ix1 i)) :=
    fun f hf w hw ix hix iw =>
      argReduce_firstTop 1000000 f hf x w ix iw reducesTo_S1000000x100_S1000000_d1 h_S_ (hix _) hw i y hy hx
  rw [fn_argmax]
  exact key _ reducer_eq _ hw _ hb _

theorem rowMax_eq (j : Fin 100) (ht : ∀ k, y k ≤ y j) : rowMax x (ix1 i) = y j := by
  have h : rowMax x (ix1 i) = univ.fold max (Ideal.ofBits .f32 0xFF800000#32) (fun j => x (ix2 i j)) := by
    pointwise [rowMax]
  rw [h, lit_bot, ← fold_max_eq y j ht]
  simp only [hx]

/-- Under the precondition, where the label's logit is the greatest of its row the label is the arg-max. -/
theorem label_eq (h : fn x l = fun _ => 1#1) (j : Fin 100) (hj : BitVec.ofNat 32 j.val = l (ix1 i))
    (ht : ∀ k, y k ≤ y j) : l (ix1 i) = fn_argmax x (ix1 i) := by
  by_contra hne
  have hr : ∀ (a : FVec Ideal S1000000x100 .f32) (b d : IVec S1000000x100 32),
      a (ix2 i j) = x (ix2 i j) → b (ix2 i j) = BitVec.ofNat 32 j.val → d (ix2 i j) ≠ BitVec.ofNat 32 j.val →
      andi (andi (cmpf .oeq x a) (cmpi .eq (iotaInDim S1000000x100 32 1) b))
        (cmpi .ne (iotaInDim S1000000x100 32 1) d) (ix2 i j) = 1#1 := fun a b d ha hb hd => by
    have h1 : cmpf .oeq x a (ix2 i j) = 1#1 := by
      show FloatOps.cmpf .oeq (x (ix2 i j)) (a (ix2 i j)) = 1#1
      rw [ha]; simp [Ideal.cmpf_def, Ideal.cmp]
    have h2 : cmpi .eq (iotaInDim S1000000x100 32 1) b (ix2 i j) = 1#1 := IntOp.cmpi_eq.2 hb.symm
    have h3 : cmpi .ne (iotaInDim S1000000x100 32 1) d (ix2 i j) = 1#1 := IntOp.cmpi_ne.2 hd.symm
    show IntOp.andi (IntOp.andi (cmpf .oeq x a (ix2 i j)) (cmpi .eq (iotaInDim S1000000x100 32 1) b (ix2 i j)))
      (cmpi .ne (iotaInDim S1000000x100 32 1) d (ix2 i j)) = 1#1
    rw [h1, h2, h3]; decide
  refine elements x l h (ix2 i j) (hr (alongClasses (rowMax x)) (alongClasses l) (alongClasses (fn_argmax x)) ?_ ?_ ?_)
  · rw [alongClasses_apply, rowMax_eq x i y hx j ht, hx]
  · rw [alongClasses_apply, hj]
  · rw [alongClasses_apply, hj]; exact fun e => hne e.symm

end Cert.Pre_label_not_a_later_tie

end
-- ==== Proof.Equation.lean ====
/-
  The equation between the two programs: under the precondition the kernel's result is the reference's.

  Both are the expected calibration error of the exponentials of the logits and of the labels.
-/
module

public import proofs.«01_k».proof.Proof.KernelSum
public import proofs.«01_k».proof.Proof.RefValue
public import proofs.«01_k».proof.Proof.Pre
public import proofs.«01_k».proof.Proof.Gen.Pre_label_not_a_later_tie

@[expose] public section

set_option maxRecDepth 16384

noncomputable section

namespace Cert.Equation

open Idealize.ShloMosaic Idealize.SL.Sem Cert.Ece

variable (x : FVec Ideal Cert.KernelIdeal.S1000000x100 .f32) (l : IVec Cert.KernelIdeal.S1000000 32)

/-- Under the precondition a label whose logit is the greatest of its row is the first such class, unless the row is
    all `−∞`. -/
theorem label_firstTop (h : Cert.Pre_label_not_a_later_tie.fn x l = fun _ => 1#1) (r : Fin 1000000) (j : Fin 100)
    (hj : BitVec.ofNat 32 j.val = l (ix1 r)) (ht : ∀ k, x (ix2 r k) ≤ x (ix2 r j))
    (hy : ∃ k, x (ix2 r k) ≠ (⊥ : EReal)) : FirstTop (fun j => x (ix2 r j)) (l (ix1 r)) := by
  have e := Cert.Pre_label_not_a_later_tie.label_eq x l r (fun j => x (ix2 r j)) (fun _ => rfl) h j hj ht
  have f := Cert.Pre_label_not_a_later_tie.argmax_firstTop x r (fun j => x (ix2 r j)) (fun _ => rfl) hy
  rw [← e] at f
  exact f

/-- A one-by-one array is known by its element. -/
theorem ext_one (a b : Vec Ideal Cert.KernelIdeal.S1x1 .f32) (h : a (ix2 0 0) = b (ix2 0 0)) : a = b := by
  have key : ∀ p q : Fin 1, a (ix2 p q) = b (ix2 p q) := fun p q => by
    rw [Subsingleton.elim p 0, Subsingleton.elim q 0]
    exact h
  funext i
  rw [eq_ix2 i]
  exact key _ _

/-- Under the precondition the kernel's result is the reference's. -/
theorem results_equal (m : (ℓ : Loc Cert.KernelIdeal.nD Cert.KernelIdeal.τ Cert.KernelIdeal.sig) → Buf (Elt Ideal) ℓ)
    (c : Dev Cert.KernelIdeal.nD) (hx : Cert.KernelIdeal.Ece.logits m c = x) (hl : Cert.KernelIdeal.Ece.labels m c = l)
    (h : Cert.Pre_label_not_a_later_tie.fn x l = fun _ => 1#1) :
    Cert.KernelIdeal.Value.G2 m c = Cert.ReferenceIdeal.Ece.ece x l := by
  refine ext_one _ _ ?_
  have hk := Cert.KernelIdeal.Ece.value_eq m c
  have hlog : Cert.KernelIdeal.Ece.weightsOf m c = Cert.ReferenceIdeal.Ece.weightsOf x := by
    unfold Cert.KernelIdeal.Ece.weightsOf Cert.ReferenceIdeal.Ece.weightsOf
    rw [hx]
  have hlab : Cert.KernelIdeal.Ece.label m c = fun r => l (ix1 r) := funext fun r => congrFun hl (ix1 r)
  rw [hlog, hlab] at hk
  rw [Cert.KernelIdeal.Ece.result_eq]
  exact hk.trans (Cert.ReferenceIdeal.Ece.value_eq x l (label_firstTop x l h)).symm

end Cert.Equation

end
-- ==== Proof.lean ====
/-
  The claims about the expected-calibration-error kernel, assembled.

  The kernel, as printed and at the ideal instance, and the reference each terminate without a fault, with their
  arguments unchanged and every semaphore counter at zero. The idealized kernel is the kernel's own text. And from
  memories that agree on the arguments, under the precondition, kernel and reference end with equal results: each is
  the expected calibration error of the logits and the labels (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_label_not_a_later_tie
public import proofs.«01_k».proof.Proof.Equation
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference terminates without a fault, its arguments unchanged; its counters read zero, for it declares no
    semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by decide) r.2⟩) (Cert.ReferenceIdeal.Ece.run m g)

/-- Under the precondition, from memories that agree on the arguments, kernel and reference end with equal results. -/
theorem algebraic : Cert.algebraic_KernelIdeal_ReferenceIdeal_pre_label_not_a_later_tie := by
  intro m g m' g' hpre hagree
  refine ⟨fun c => Cert.KernelIdeal.Value.G2 m c, Cert.KernelIdeal.Value.run m g, ?_⟩
  refine (θ_run Cert.ReferenceIdeal.defs _ _).mono (fun r h c => ⟨(h c).1.trans ?_, (h c).2⟩)
    (Cert.ReferenceIdeal.Ece.run m' g')
  have e := Cert.Equation.results_equal _ _ m c rfl rfl (hpre c)
  rw [(hagree c).1, (hagree c).2]
  exact e.symm

/-- Everything claimed of the three programs. -/
theorem claim : Cert.Claim :=
  ⟨Cert.Kernel.Gen.facts, Cert.KernelIdeal.Gen.facts, Cert.ReferenceIdeal.Gen.facts,
    Cert.Pre_label_not_a_later_tie.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, algebraic⟩

end Cert.Proof

end
